-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "log2e_over_t" .f32 0x431044FE#32 (((Real.log 2)⁻¹ * (5368709 / 536870912)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def holds_KernelIdeal_near_pre_finite [hKernelIdeal : Cert.KernelIdeal.Facts] [hPre_finite : Cert.Pre_finite.Facts] [hPost_near : Cert.Post_near.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ (Cert.Post_near.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (r.2.mem ((c.tc : Thread Cert.KernelIdeal.nD Cert.KernelIdeal.τ).loc Cert.KernelIdeal.main_v0))) = (fun _ => 1#1))

def Claim : Prop :=
  ∃ (hKernel : Cert.Kernel.Facts) (hKernelIdeal : Cert.KernelIdeal.Facts) (hReferenceIdeal : Cert.ReferenceIdeal.Facts) (hPre_finite : Cert.Pre_finite.Facts) (hPost_near : Cert.Post_near.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
    ∧ holds_KernelIdeal_near_pre_finite (hKernelIdeal := hKernelIdeal) (hPre_finite := hPre_finite) (hPost_near := hPost_near)
-- ==== Post_near.lean ====
abbrev S1x4x1024x3 : Shape := ⟨4, ![1, 4, 1024, 3]⟩
abbrev S3x64 : Shape := ⟨2, ![3, 64]⟩
abbrev S64 : Shape := ⟨1, ![64]⟩
abbrev S64x3 : Shape := ⟨2, ![64, 3]⟩
abbrev S3 : Shape := ⟨1, ![3]⟩
abbrev S64x1 : Shape := ⟨2, ![64, 1]⟩
abbrev S1 : Shape := ⟨1, ![1]⟩
abbrev S6x1x1024x1024 : Shape := ⟨4, ![6, 1, 1024, 1024]⟩
abbrev S1x1x1024x3 : Shape := ⟨4, ![1, 1, 1024, 3]⟩
abbrev S1x1024x3 : Shape := ⟨3, ![1, 1024, 3]⟩
abbrev S6x1024x3 : Shape := ⟨3, ![6, 1024, 3]⟩
abbrev S6x1024x64 : Shape := ⟨3, ![6, 1024, 64]⟩
abbrev S1x1x64 : Shape := ⟨3, ![1, 1, 64]⟩
abbrev S1x1x3 : Shape := ⟨3, ![1, 1, 3]⟩
abbrev S6x1024x1 : Shape := ⟨3, ![6, 1024, 1]⟩
abbrev S1x1x1 : Shape := ⟨3, ![1, 1, 1]⟩
abbrev S6x1024 : Shape := ⟨2, ![6, 1024]⟩
abbrev S_ : Shape := ⟨0, ![]⟩
abbrev S6x1024x1x3 : Shape := ⟨4, ![6, 1024, 1, 3]⟩
abbrev S6x1x1024x3 : Shape := ⟨4, ![6, 1, 1024, 3]⟩
abbrev S6x1024x1024x3 : Shape := ⟨4, ![6, 1024, 1024, 3]⟩
abbrev S6x1024x1024 : Shape := ⟨3, ![6, 1024, 1024]⟩
abbrev S6x1x1024 : Shape := ⟨3, ![6, 1, 1024]⟩

class Facts : Prop where
  slices_S1x4x1024x3_S1x1x1024x3_0_0_0_0 : S1x4x1024x3.Slices ![0, 0, 0, 0] S1x1x1024x3
  shapeCasts_S1x1x1024x3_S1x1024x3 : S1x1x1024x3.ShapeCasts S1x1024x3
  slices_S1x4x1024x3_S1x1x1024x3_0_1_0_0 : S1x4x1024x3.Slices ![0, 1, 0, 0] S1x1x1024x3
  slices_S1x4x1024x3_S1x1x1024x3_0_2_0_0 : S1x4x1024x3.Slices ![0, 2, 0, 0] S1x1x1024x3
  concatenates_S1x1024x3_S1x1024x3_S1x1024x3_S1x1024x3_S1x1024x3_S1x1024x3_S6x1024x3_d0 : Shape.Concatenates [S1x1024x3, S1x1024x3, S1x1024x3, S1x1024x3, S1x1024x3, S1x1024x3] S6x1024x3 0
  slices_S1x4x1024x3_S1x1x1024x3_0_3_0_0 : S1x4x1024x3.Slices ![0, 3, 0, 0] S1x1x1024x3
  bcast_S64_S1x1x64_2 : S64.BroadcastsInDim S1x1x64 (![2] : Fin 1 → Fin S1x1x64.rank)
  bcast_S1x1x64_S6x1024x64_0_1_2 : S1x1x64.BroadcastsInDim S6x1024x64 (![0, 1, 2] : Fin 3 → Fin S6x1024x64.rank)
  bcast_S3_S1x1x3_2 : S3.BroadcastsInDim S1x1x3 (![2] : Fin 1 → Fin S1x1x3.rank)
  bcast_S1x1x3_S6x1024x3_0_1_2 : S1x1x3.BroadcastsInDim S6x1024x3 (![0, 1, 2] : Fin 3 → Fin S6x1024x3.rank)
  bcast_S1_S1x1x1_2 : S1.BroadcastsInDim S1x1x1 (![2] : Fin 1 → Fin S1x1x1.rank)
  bcast_S1x1x1_S6x1024x1_0_1_2 : S1x1x1.BroadcastsInDim S6x1024x1 (![0, 1, 2] : Fin 3 → Fin S6x1024x1.rank)
  shapeCasts_S6x1024x1_S6x1024 : S6x1024x1.ShapeCasts S6x1024
  bcast_S_S6x1024 : S_.BroadcastsInDim S6x1024 (![] : Fin 0 → Fin S6x1024.rank)
  bcast_S6x1024x3_S6x1024x1x3_0_1_3 : S6x1024x3.BroadcastsInDim S6x1024x1x3 (![0, 1, 3] : Fin 3 → Fin S6x1024x1x3.rank)
  bcast_S6x1024x3_S6x1x1024x3_0_2_3 : S6x1024x3.BroadcastsInDim S6x1x1024x3 (![0, 2, 3] : Fin 3 → Fin S6x1x1024x3.rank)
  bcast_S6x1024x1x3_S6x1024x1024x3_0_1_2_3 : S6x1024x1x3.BroadcastsInDim S6x1024x1024x3 (![0, 1, 2, 3] : Fin 4 → Fin S6x1024x1024x3.rank)
  bcast_S6x1x1024x3_S6x1024x1024x3_0_1_2_3 : S6x1x1024x3.BroadcastsInDim S6x1024x1024x3 (![0, 1, 2, 3] : Fin 4 → Fin S6x1024x1024x3.rank)
  reducesTo_S6x1024x1024x3_S6x1024x1024_d3 : S6x1024x1024x3.ReducesTo [3] S6x1024x1024
  h_S_ : 0 < S_.numel
  bcast_S_S6x1024x1024 : S_.BroadcastsInDim S6x1024x1024 (![] : Fin 0 → Fin S6x1024x1024.rank)
  bcast_S6x1024_S6x1024x1_0_1 : S6x1024.BroadcastsInDim S6x1024x1 (![0, 1] : Fin 2 → Fin S6x1024x1.rank)
  bcast_S6x1024x1_S6x1024x1024_0_1_2 : S6x1024x1.BroadcastsInDim S6x1024x1024 (![0, 1, 2] : Fin 3 → Fin S6x1024x1024.rank)
  bcast_S6x1024_S6x1x1024_0_2 : S6x1024.BroadcastsInDim S6x1x1024 (![0, 2] : Fin 2 → Fin S6x1x1024.rank)
  bcast_S6x1x1024_S6x1024x1024_0_1_2 : S6x1x1024.BroadcastsInDim S6x1024x1024 (![0, 1, 2] : Fin 3 → Fin S6x1024x1024.rank)
  reducesTo_S6x1024x1024_S6x1024_d2 : S6x1024x1024.ReducesTo [2] S6x1024
  bcast_S6x1024x1024_S6x1x1024x1024_0_2_3 : S6x1024x1024.BroadcastsInDim S6x1x1024x1024 (![0, 2, 3] : Fin 3 → Fin S6x1x1024x1024.rank)
  bcast_S_S6x1x1024x1024 : S_.BroadcastsInDim S6x1x1024x1024 (![] : Fin 0 → Fin S6x1x1024x1024.rank)
  dot_S6x1024x3_S3x64_S6x1024x64_2_0_01_1_n_n_wf : DotDims.WF S6x1024x3 S3x64 S6x1024x64 [2] [0] [0, 1] [1] [] []
  dot_S6x1024x64_S64x3_S6x1024x3_2_0_01_1_n_n_wf : DotDims.WF S6x1024x64 S64x3 S6x1024x3 [2] [0] [0, 1] [1] [] []
  dot_S6x1024x64_S64x1_S6x1024x1_2_0_01_1_n_n_wf : DotDims.WF S6x1024x64 S64x1 S6x1024x1 [2] [0] [0, 1] [1] [] []

variable [Facts]

def dot_S6x1024x3_S3x64_S6x1024x64_2_0_01_1_n_n : DotDims S6x1024x3 S3x64 S6x1024x64 where
  lhsContracting := [2]
  rhsContracting := [0]
  lhsNonContracting := [0, 1]
  rhsNonContracting := [1]
  lhsBatch := []
  rhsBatch := []
  wf := dot_S6x1024x3_S3x64_S6x1024x64_2_0_01_1_n_n_wf
def dot_S6x1024x64_S64x3_S6x1024x3_2_0_01_1_n_n : DotDims S6x1024x64 S64x3 S6x1024x3 where
  lhsContracting := [2]
  rhsContracting := [0]
  lhsNonContracting := [0, 1]
  rhsNonContracting := [1]
  lhsBatch := []
  rhsBatch := []
  wf := dot_S6x1024x64_S64x3_S6x1024x3_2_0_01_1_n_n_wf
def dot_S6x1024x64_S64x1_S6x1024x1_2_0_01_1_n_n : DotDims S6x1024x64 S64x1 S6x1024x1 where
  lhsContracting := [2]
  rhsContracting := [0]
  lhsNonContracting := [0, 1]
  rhsNonContracting := [1]
  lhsBatch := []
  rhsBatch := []
  wf := dot_S6x1024x64_S64x1_S6x1024x1_2_0_01_1_n_n_wf
def fn_part5 {F : FTy → Type} [FloatOps F] (main_arg9 : FVec F S6x1x1024x1024 .f32) (main_v111 : FVec F S6x1024x1024 .f32) : IVec S6x1x1024x1024 1 :=
  let main_cst_7 : FVec F S_ .f32 := constant S_ .f32 0x3C23D70A#32
  let main_v112 : FVec F S6x1024x1024 .f32 := broadcastInDim S6x1024x1024 ![] bcast_S_S6x1024x1024 main_cst_7
  let main_v113 : FVec F S6x1024x1024 .f32 := Host.divf main_v111 main_v112
  let main_cst_8 : FVec F S_ .f32 := constant S_ .f32 0xFF800000#32
  let main_v114 : FVec F S6x1024 .f32 := (fun x v => Host.reduce FloatOps.maximumf x v reducesTo_S6x1024x1024_S6x1024_d2 h_S_) main_v113 main_cst_8
  let main_cst_9 : FVec F S_ .f32 := constant S_ .f32 0xFF800000#32
  let main_v115 : FVec F S6x1024 .f32 := broadcastInDim S6x1024 ![] bcast_S_S6x1024 main_cst_9
  let main_v116 : FVec F S6x1024 .f32 := maximumf main_v115 main_v114
  let main_v117 : FVec F S6x1024x1 .f32 := broadcastInDim S6x1024x1 ![0, 1] bcast_S6x1024_S6x1024x1_0_1 main_v116
  let main_v118 : FVec F S6x1024x1024 .f32 := broadcastInDim S6x1024x1024 ![0, 1, 2] bcast_S6x1024x1_S6x1024x1024_0_1_2 main_v117
  let main_v119 : FVec F S6x1024x1024 .f32 := subf main_v113 main_v118
  let main_v120 : FVec F S6x1024x1024 .f32 := Host.exp main_v119
  let main_cst_10 : FVec F S_ .f32 := constant S_ .f32 0x00000000#32
  let main_v121 : FVec F S6x1024 .f32 := (fun x v => Host.reduceAdd x v reducesTo_S6x1024x1024_S6x1024_d2 h_S_) main_v120 main_cst_10
  let main_v122 : FVec F S6x1024x1 .f32 := broadcastInDim S6x1024x1 ![0, 1] bcast_S6x1024_S6x1024x1_0_1 main_v121
  let main_v123 : FVec F S6x1024x1024 .f32 := broadcastInDim S6x1024x1024 ![0, 1, 2] bcast_S6x1024x1_S6x1024x1024_0_1_2 main_v122
  let main_v124 : FVec F S6x1024x1024 .f32 := Host.divf main_v120 main_v123
  let main_v125 : FVec F S6x1x1024x1024 .f32 := broadcastInDim S6x1x1024x1024 ![0, 2, 3] bcast_S6x1024x1024_S6x1x1024x1024_0_2_3 main_v124
  let main_v126 : FVec F S6x1x1024x1024 .f32 := subf main_arg9 main_v125
  let main_v127 : FVec F S6x1x1024x1024 .f32 := Host.absf main_v126
  let main_cst_11 : FVec F S_ .f32 := constant S_ .f32 0x395C3372#32
  let main_v128 : FVec F S6x1x1024x1024 .f32 := broadcastInDim S6x1x1024x1024 ![] bcast_S_S6x1x1024x1024 main_cst_11
  let main_v129 : FVec F S6x1x1024x1024 .f32 := mulf main_v128 main_v125
  let main_v130 : IVec S6x1x1024x1024 1 := cmpf .ole main_v127 main_v129
  main_v130

def fn_part4 {F : FTy → Type} [FloatOps F] (main_arg9 : FVec F S6x1x1024x1024 .f32) (main_v12 : FVec F S6x1024x3 .f32) (main_v25 : FVec F S6x1024x3 .f32) (main_v43 : FVec F S6x1024x3 .f32) (main_v60 : FVec F S6x1024 .f32) (main_v77 : FVec F S6x1024 .f32) (main_v89 : FVec F S6x1024x1024 .f32) : IVec S6x1x1024x1024 1 :=
  let main_v90 : FVec F S6x1024x3 .f32 := addf main_v25 main_v43
  let main_v91 : FVec F S6x1024x1x3 .f32 := broadcastInDim S6x1024x1x3 ![0, 1, 3] bcast_S6x1024x3_S6x1024x1x3_0_1_3 main_v12
  let main_v92 : FVec F S6x1x1024x3 .f32 := broadcastInDim S6x1x1024x3 ![0, 2, 3] bcast_S6x1024x3_S6x1x1024x3_0_2_3 main_v90
  let main_v93 : FVec F S6x1024x1024x3 .f32 := broadcastInDim S6x1024x1024x3 ![0, 1, 2, 3] bcast_S6x1024x1x3_S6x1024x1024x3_0_1_2_3 main_v91
  let main_v94 : FVec F S6x1024x1024x3 .f32 := broadcastInDim S6x1024x1024x3 ![0, 1, 2, 3] bcast_S6x1x1024x3_S6x1024x1024x3_0_1_2_3 main_v92
  let main_v95 : FVec F S6x1024x1024x3 .f32 := subf main_v93 main_v94
  let main_v96 : FVec F S6x1024x1024x3 .f32 := mulf main_v95 main_v95
  let main_cst_5 : FVec F S_ .f32 := constant S_ .f32 0x00000000#32
  let main_v97 : FVec F S6x1024x1024 .f32 := (fun x v => Host.reduceAdd x v reducesTo_S6x1024x1024x3_S6x1024x1024_d3 h_S_) main_v96 main_cst_5
  let main_cst_6 : FVec F S_ .f32 := constant S_ .f32 0x2B8CBCCC#32
  let main_v98 : FVec F S6x1024x1024 .f32 := broadcastInDim S6x1024x1024 ![] bcast_S_S6x1024x1024 main_cst_6
  let main_v99 : FVec F S6x1024x1024 .f32 := maximumf main_v97 main_v98
  let main_v100 : FVec F S6x1024x1024 .f32 := Host.sqrt main_v99
  let main_v101 : FVec F S6x1024x1024 .f32 := Host.negf main_v100
  let main_v102 : FVec F S6x1024x1 .f32 := broadcastInDim S6x1024x1 ![0, 1] bcast_S6x1024_S6x1024x1_0_1 main_v60
  let main_v103 : FVec F S6x1024x1024 .f32 := broadcastInDim S6x1024x1024 ![0, 1, 2] bcast_S6x1024x1_S6x1024x1024_0_1_2 main_v102
  let main_v104 : FVec F S6x1x1024 .f32 := broadcastInDim S6x1x1024 ![0, 2] bcast_S6x1024_S6x1x1024_0_2 main_v77
  let main_v105 : FVec F S6x1024x1024 .f32 := broadcastInDim S6x1024x1024 ![0, 1, 2] bcast_S6x1x1024_S6x1024x1024_0_1_2 main_v104
  let main_v106 : FVec F S6x1024x1024 .f32 := addf main_v103 main_v105
  let main_v107 : FVec F S6x1024x1024 .f32 := Host.divf main_v103 main_v106
  let main_v108 : FVec F S6x1024x1024 .f32 := Host.divf main_v105 main_v106
  let main_v109 : FVec F S6x1024x1024 .f32 := mulf main_v89 main_v107
  let main_v110 : FVec F S6x1024x1024 .f32 := mulf main_v101 main_v108
  let main_v111 : FVec F S6x1024x1024 .f32 := addf main_v109 main_v110
  fn_part5 (F := F) main_arg9 main_v111

def fn_part3 {F : FTy → Type} [FloatOps F] (main_arg9 : FVec F S6x1x1024x1024 .f32) (main_v12 : FVec F S6x1024x3 .f32) (main_v25 : FVec F S6x1024x3 .f32) (main_v34 : FVec F S6x1024x3 .f32) (main_v43 : FVec F S6x1024x3 .f32) (main_v60 : FVec F S6x1024 .f32) (main_v67 : FVec F S6x1024x1 .f32) (main_v69 : FVec F S6x1024x1 .f32) : IVec S6x1x1024x1024 1 :=
  let main_v70 : FVec F S6x1024x1 .f32 := addf main_v67 main_v69
  let main_v71 : FVec F S6x1024 .f32 := shapeCast S6x1024 main_v70 shapeCasts_S6x1024x1_S6x1024
  let main_v72 : FVec F S6x1024 .f32 := Host.negf main_v71
  let main_v73 : FVec F S6x1024 .f32 := Host.exp main_v72
  let main_cst_1 : FVec F S_ .f32 := constant S_ .f32 0x3F800000#32
  let main_v74 : FVec F S6x1024 .f32 := broadcastInDim S6x1024 ![] bcast_S_S6x1024 main_cst_1
  let main_v75 : FVec F S6x1024 .f32 := addf main_v74 main_v73
  let main_cst_2 : FVec F S_ .f32 := constant S_ .f32 0x3F800000#32
  let main_v76 : FVec F S6x1024 .f32 := broadcastInDim S6x1024 ![] bcast_S_S6x1024 main_cst_2
  let main_v77 : FVec F S6x1024 .f32 := Host.divf main_v76 main_v75
  let main_v78 : FVec F S6x1024x3 .f32 := addf main_v12 main_v34
  let main_v79 : FVec F S6x1024x1x3 .f32 := broadcastInDim S6x1024x1x3 ![0, 1, 3] bcast_S6x1024x3_S6x1024x1x3_0_1_3 main_v78
  let main_v80 : FVec F S6x1x1024x3 .f32 := broadcastInDim S6x1x1024x3 ![0, 2, 3] bcast_S6x1024x3_S6x1x1024x3_0_2_3 main_v25
  let main_v81 : FVec F S6x1024x1024x3 .f32 := broadcastInDim S6x1024x1024x3 ![0, 1, 2, 3] bcast_S6x1024x1x3_S6x1024x1024x3_0_1_2_3 main_v79
  let main_v82 : FVec F S6x1024x1024x3 .f32 := broadcastInDim S6x1024x1024x3 ![0, 1, 2, 3] bcast_S6x1x1024x3_S6x1024x1024x3_0_1_2_3 main_v80
  let main_v83 : FVec F S6x1024x1024x3 .f32 := subf main_v81 main_v82
  let main_v84 : FVec F S6x1024x1024x3 .f32 := mulf main_v83 main_v83
  let main_cst_3 : FVec F S_ .f32 := constant S_ .f32 0x00000000#32
  let main_v85 : FVec F S6x1024x1024 .f32 := (fun x v => Host.reduceAdd x v reducesTo_S6x1024x1024x3_S6x1024x1024_d3 h_S_) main_v84 main_cst_3
  let main_cst_4 : FVec F S_ .f32 := constant S_ .f32 0x2B8CBCCC#32
  let main_v86 : FVec F S6x1024x1024 .f32 := broadcastInDim S6x1024x1024 ![] bcast_S_S6x1024x1024 main_cst_4
  let main_v87 : FVec F S6x1024x1024 .f32 := maximumf main_v85 main_v86
  let main_v88 : FVec F S6x1024x1024 .f32 := Host.sqrt main_v87
  let main_v89 : FVec F S6x1024x1024 .f32 := Host.negf main_v88
  fn_part4 (F := F) main_arg9 main_v12 main_v25 main_v43 main_v60 main_v77 main_v89

def fn_part2 {F : FTy → Type} [FloatOps F] (main_arg5 : FVec F S3x64 .f32) (main_arg6 : FVec F S64 .f32) (main_arg7 : FVec F S64x1 .f32) (main_arg8 : FVec F S1 .f32) (main_arg9 : FVec F S6x1x1024x1024 .f32) (main_v12 : FVec F S6x1024x3 .f32) (main_v25 : FVec F S6x1024x3 .f32) (main_v34 : FVec F S6x1024x3 .f32) (main_v43 : FVec F S6x1024x3 .f32) (main_v45 : FVec F S6x1024x64 .f32) (main_v47 : FVec F S6x1024x64 .f32) : IVec S6x1x1024x1024 1 :=
  let main_v48 : FVec F S6x1024x64 .f32 := addf main_v45 main_v47
  let main_v49 : FVec F S6x1024x64 .f32 := Host.tanh main_v48
  let main_v50 : FVec F S6x1024x1 .f32 := (fun l r => Host.dotGeneral dot_S6x1024x64_S64x1_S6x1024x1_2_0_01_1_n_n none l r) main_v49 main_arg7
  let main_v51 : FVec F S1x1x1 .f32 := broadcastInDim S1x1x1 ![2] bcast_S1_S1x1x1_2 main_arg8
  let main_v52 : FVec F S6x1024x1 .f32 := broadcastInDim S6x1024x1 ![0, 1, 2] bcast_S1x1x1_S6x1024x1_0_1_2 main_v51
  let main_v53 : FVec F S6x1024x1 .f32 := addf main_v50 main_v52
  let main_v54 : FVec F S6x1024 .f32 := shapeCast S6x1024 main_v53 shapeCasts_S6x1024x1_S6x1024
  let main_v55 : FVec F S6x1024 .f32 := Host.negf main_v54
  let main_v56 : FVec F S6x1024 .f32 := Host.exp main_v55
  let main_cst : FVec F S_ .f32 := constant S_ .f32 0x3F800000#32
  let main_v57 : FVec F S6x1024 .f32 := broadcastInDim S6x1024 ![] bcast_S_S6x1024 main_cst
  let main_v58 : FVec F S6x1024 .f32 := addf main_v57 main_v56
  let main_cst_0 : FVec F S_ .f32 := constant S_ .f32 0x3F800000#32
  let main_v59 : FVec F S6x1024 .f32 := broadcastInDim S6x1024 ![] bcast_S_S6x1024 main_cst_0
  let main_v60 : FVec F S6x1024 .f32 := Host.divf main_v59 main_v58
  let main_v61 : FVec F S6x1024x3 .f32 := addf main_v25 main_v43
  let main_v62 : FVec F S6x1024x64 .f32 := (fun l r => Host.dotGeneral dot_S6x1024x3_S3x64_S6x1024x64_2_0_01_1_n_n none l r) main_v61 main_arg5
  let main_v63 : FVec F S1x1x64 .f32 := broadcastInDim S1x1x64 ![2] bcast_S64_S1x1x64_2 main_arg6
  let main_v64 : FVec F S6x1024x64 .f32 := broadcastInDim S6x1024x64 ![0, 1, 2] bcast_S1x1x64_S6x1024x64_0_1_2 main_v63
  let main_v65 : FVec F S6x1024x64 .f32 := addf main_v62 main_v64
  let main_v66 : FVec F S6x1024x64 .f32 := Host.tanh main_v65
  let main_v67 : FVec F S6x1024x1 .f32 := (fun l r => Host.dotGeneral dot_S6x1024x64_S64x1_S6x1024x1_2_0_01_1_n_n none l r) main_v66 main_arg7
  let main_v68 : FVec F S1x1x1 .f32 := broadcastInDim S1x1x1 ![2] bcast_S1_S1x1x1_2 main_arg8
  let main_v69 : FVec F S6x1024x1 .f32 := broadcastInDim S6x1024x1 ![0, 1, 2] bcast_S1x1x1_S6x1024x1_0_1_2 main_v68
  fn_part3 (F := F) main_arg9 main_v12 main_v25 main_v34 main_v43 main_v60 main_v67 main_v69

def fn_part1 {F : FTy → Type} [FloatOps F] (main_arg1 : FVec F S3x64 .f32) (main_arg2 : FVec F S64 .f32) (main_arg3 : FVec F S64x3 .f32) (main_arg4 : FVec F S3 .f32) (main_arg5 : FVec F S3x64 .f32) (main_arg6 : FVec F S64 .f32) (main_arg7 : FVec F S64x1 .f32) (main_arg8 : FVec F S1 .f32) (main_arg9 : FVec F S6x1x1024x1024 .f32) (main_v12 : FVec F S6x1024x3 .f32) (main_v14 : FVec F S1x1024x3 .f32) (main_v16 : FVec F S1x1024x3 .f32) (main_v18 : FVec F S1x1024x3 .f32) (main_v20 : FVec F S1x1024x3 .f32) (main_v22 : FVec F S1x1024x3 .f32) (main_v23 : FVec F S1x1x1024x3 .f32) : IVec S6x1x1024x1024 1 :=
  let main_v24 : FVec F S1x1024x3 .f32 := shapeCast S1x1024x3 main_v23 shapeCasts_S1x1x1024x3_S1x1024x3
  let main_v25 : FVec F S6x1024x3 .f32 := concatenate S6x1024x3 0 [⟨S1x1024x3, main_v14⟩, ⟨S1x1024x3, main_v16⟩, ⟨S1x1024x3, main_v18⟩, ⟨S1x1024x3, main_v20⟩, ⟨S1x1024x3, main_v22⟩, ⟨S1x1024x3, main_v24⟩] concatenates_S1x1024x3_S1x1024x3_S1x1024x3_S1x1024x3_S1x1024x3_S1x1024x3_S6x1024x3_d0
  let main_v26 : FVec F S6x1024x64 .f32 := (fun l r => Host.dotGeneral dot_S6x1024x3_S3x64_S6x1024x64_2_0_01_1_n_n none l r) main_v12 main_arg1
  let main_v27 : FVec F S1x1x64 .f32 := broadcastInDim S1x1x64 ![2] bcast_S64_S1x1x64_2 main_arg2
  let main_v28 : FVec F S6x1024x64 .f32 := broadcastInDim S6x1024x64 ![0, 1, 2] bcast_S1x1x64_S6x1024x64_0_1_2 main_v27
  let main_v29 : FVec F S6x1024x64 .f32 := addf main_v26 main_v28
  let main_v30 : FVec F S6x1024x64 .f32 := Host.tanh main_v29
  let main_v31 : FVec F S6x1024x3 .f32 := (fun l r => Host.dotGeneral dot_S6x1024x64_S64x3_S6x1024x3_2_0_01_1_n_n none l r) main_v30 main_arg3
  let main_v32 : FVec F S1x1x3 .f32 := broadcastInDim S1x1x3 ![2] bcast_S3_S1x1x3_2 main_arg4
  let main_v33 : FVec F S6x1024x3 .f32 := broadcastInDim S6x1024x3 ![0, 1, 2] bcast_S1x1x3_S6x1024x3_0_1_2 main_v32
  let main_v34 : FVec F S6x1024x3 .f32 := addf main_v31 main_v33
  let main_v35 : FVec F S6x1024x64 .f32 := (fun l r => Host.dotGeneral dot_S6x1024x3_S3x64_S6x1024x64_2_0_01_1_n_n none l r) main_v25 main_arg1
  let main_v36 : FVec F S1x1x64 .f32 := broadcastInDim S1x1x64 ![2] bcast_S64_S1x1x64_2 main_arg2
  let main_v37 : FVec F S6x1024x64 .f32 := broadcastInDim S6x1024x64 ![0, 1, 2] bcast_S1x1x64_S6x1024x64_0_1_2 main_v36
  let main_v38 : FVec F S6x1024x64 .f32 := addf main_v35 main_v37
  let main_v39 : FVec F S6x1024x64 .f32 := Host.tanh main_v38
  let main_v40 : FVec F S6x1024x3 .f32 := (fun l r => Host.dotGeneral dot_S6x1024x64_S64x3_S6x1024x3_2_0_01_1_n_n none l r) main_v39 main_arg3
  let main_v41 : FVec F S1x1x3 .f32 := broadcastInDim S1x1x3 ![2] bcast_S3_S1x1x3_2 main_arg4
  let main_v42 : FVec F S6x1024x3 .f32 := broadcastInDim S6x1024x3 ![0, 1, 2] bcast_S1x1x3_S6x1024x3_0_1_2 main_v41
  let main_v43 : FVec F S6x1024x3 .f32 := addf main_v40 main_v42
  let main_v44 : FVec F S6x1024x3 .f32 := addf main_v12 main_v34
  let main_v45 : FVec F S6x1024x64 .f32 := (fun l r => Host.dotGeneral dot_S6x1024x3_S3x64_S6x1024x64_2_0_01_1_n_n none l r) main_v44 main_arg5
  let main_v46 : FVec F S1x1x64 .f32 := broadcastInDim S1x1x64 ![2] bcast_S64_S1x1x64_2 main_arg6
  let main_v47 : FVec F S6x1024x64 .f32 := broadcastInDim S6x1024x64 ![0, 1, 2] bcast_S1x1x64_S6x1024x64_0_1_2 main_v46
  fn_part2 (F := F) main_arg5 main_arg6 main_arg7 main_arg8 main_arg9 main_v12 main_v25 main_v34 main_v43 main_v45 main_v47

def fn {F : FTy → Type} [FloatOps F] (main_arg0 : FVec F S1x4x1024x3 .f32) (main_arg1 : FVec F S3x64 .f32) (main_arg2 : FVec F S64 .f32) (main_arg3 : FVec F S64x3 .f32) (main_arg4 : FVec F S3 .f32) (main_arg5 : FVec F S3x64 .f32) (main_arg6 : FVec F S64 .f32) (main_arg7 : FVec F S64x1 .f32) (main_arg8 : FVec F S1 .f32) (main_arg9 : FVec F S6x1x1024x1024 .f32) : IVec S6x1x1024x1024 1 :=
  let main_v0 : FVec F S1x1x1024x3 .f32 := (extractStridedSlice S1x1x1024x3 ![0, 0, 0, 0] · slices_S1x4x1024x3_S1x1x1024x3_0_0_0_0) main_arg0
  let main_v1 : FVec F S1x1024x3 .f32 := shapeCast S1x1024x3 main_v0 shapeCasts_S1x1x1024x3_S1x1024x3
  let main_v2 : FVec F S1x1x1024x3 .f32 := (extractStridedSlice S1x1x1024x3 ![0, 0, 0, 0] · slices_S1x4x1024x3_S1x1x1024x3_0_0_0_0) main_arg0
  let main_v3 : FVec F S1x1024x3 .f32 := shapeCast S1x1024x3 main_v2 shapeCasts_S1x1x1024x3_S1x1024x3
  let main_v4 : FVec F S1x1x1024x3 .f32 := (extractStridedSlice S1x1x1024x3 ![0, 0, 0, 0] · slices_S1x4x1024x3_S1x1x1024x3_0_0_0_0) main_arg0
  let main_v5 : FVec F S1x1024x3 .f32 := shapeCast S1x1024x3 main_v4 shapeCasts_S1x1x1024x3_S1x1024x3
  let main_v6 : FVec F S1x1x1024x3 .f32 := (extractStridedSlice S1x1x1024x3 ![0, 1, 0, 0] · slices_S1x4x1024x3_S1x1x1024x3_0_1_0_0) main_arg0
  let main_v7 : FVec F S1x1024x3 .f32 := shapeCast S1x1024x3 main_v6 shapeCasts_S1x1x1024x3_S1x1024x3
  let main_v8 : FVec F S1x1x1024x3 .f32 := (extractStridedSlice S1x1x1024x3 ![0, 1, 0, 0] · slices_S1x4x1024x3_S1x1x1024x3_0_1_0_0) main_arg0
  let main_v9 : FVec F S1x1024x3 .f32 := shapeCast S1x1024x3 main_v8 shapeCasts_S1x1x1024x3_S1x1024x3
  let main_v10 : FVec F S1x1x1024x3 .f32 := (extractStridedSlice S1x1x1024x3 ![0, 2, 0, 0] · slices_S1x4x1024x3_S1x1x1024x3_0_2_0_0) main_arg0
  let main_v11 : FVec F S1x1024x3 .f32 := shapeCast S1x1024x3 main_v10 shapeCasts_S1x1x1024x3_S1x1024x3
  let main_v12 : FVec F S6x1024x3 .f32 := concatenate S6x1024x3 0 [⟨S1x1024x3, main_v1⟩, ⟨S1x1024x3, main_v3⟩, ⟨S1x1024x3, main_v5⟩, ⟨S1x1024x3, main_v7⟩, ⟨S1x1024x3, main_v9⟩, ⟨S1x1024x3, main_v11⟩] concatenates_S1x1024x3_S1x1024x3_S1x1024x3_S1x1024x3_S1x1024x3_S1x1024x3_S6x1024x3_d0
  let main_v13 : FVec F S1x1x1024x3 .f32 := (extractStridedSlice S1x1x1024x3 ![0, 1, 0, 0] · slices_S1x4x1024x3_S1x1x1024x3_0_1_0_0) main_arg0
  let main_v14 : FVec F S1x1024x3 .f32 := shapeCast S1x1024x3 main_v13 shapeCasts_S1x1x1024x3_S1x1024x3
  let main_v15 : FVec F S1x1x1024x3 .f32 := (extractStridedSlice S1x1x1024x3 ![0, 2, 0, 0] · slices_S1x4x1024x3_S1x1x1024x3_0_2_0_0) main_arg0
  let main_v16 : FVec F S1x1024x3 .f32 := shapeCast S1x1024x3 main_v15 shapeCasts_S1x1x1024x3_S1x1024x3
  let main_v17 : FVec F S1x1x1024x3 .f32 := (extractStridedSlice S1x1x1024x3 ![0, 3, 0, 0] · slices_S1x4x1024x3_S1x1x1024x3_0_3_0_0) main_arg0
  let main_v18 : FVec F S1x1024x3 .f32 := shapeCast S1x1024x3 main_v17 shapeCasts_S1x1x1024x3_S1x1024x3
  let main_v19 : FVec F S1x1x1024x3 .f32 := (extractStridedSlice S1x1x1024x3 ![0, 2, 0, 0] · slices_S1x4x1024x3_S1x1x1024x3_0_2_0_0) main_arg0
  let main_v20 : FVec F S1x1024x3 .f32 := shapeCast S1x1024x3 main_v19 shapeCasts_S1x1x1024x3_S1x1024x3
  let main_v21 : FVec F S1x1x1024x3 .f32 := (extractStridedSlice S1x1x1024x3 ![0, 3, 0, 0] · slices_S1x4x1024x3_S1x1x1024x3_0_3_0_0) main_arg0
  let main_v22 : FVec F S1x1024x3 .f32 := shapeCast S1x1024x3 main_v21 shapeCasts_S1x1x1024x3_S1x1024x3
  let main_v23 : FVec F S1x1x1024x3 .f32 := (extractStridedSlice S1x1x1024x3 ![0, 3, 0, 0] · slices_S1x4x1024x3_S1x1x1024x3_0_3_0_0) main_arg0
  fn_part1 (F := F) main_arg1 main_arg2 main_arg3 main_arg4 main_arg5 main_arg6 main_arg7 main_arg8 main_arg9 main_v12 main_v14 main_v16 main_v18 main_v20 main_v22 main_v23
-- ==== Pre_finite.lean ====
abbrev S1x4x1024x3 : Shape := ⟨4, ![1, 4, 1024, 3]⟩
abbrev S3x64 : Shape := ⟨2, ![3, 64]⟩
abbrev S64 : Shape := ⟨1, ![64]⟩
abbrev S64x3 : Shape := ⟨2, ![64, 3]⟩
abbrev S3 : Shape := ⟨1, ![3]⟩
abbrev S64x1 : Shape := ⟨2, ![64, 1]⟩
abbrev S1 : Shape := ⟨1, ![1]⟩
abbrev S_ : Shape := ⟨0, ![]⟩

class Facts : Prop where
  bcast_S_S1x4x1024x3 : S_.BroadcastsInDim S1x4x1024x3 (![] : Fin 0 → Fin S1x4x1024x3.rank)
  reducesTo_S1x4x1024x3_S_d0_1_2_3 : S1x4x1024x3.ReducesTo [0, 1, 2, 3] S_
  h_S_ : 0 < S_.numel
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg8 : FVec F S1 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S1 .f32 := Host.absf main_arg8
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S1x4x1024x3 .f32) (main_arg1 : FVec F S3x64 .f32) (main_arg2 : FVec F S64 .f32) (main_arg3 : FVec F S64x3 .f32) (main_arg4 : FVec F S3 .f32) (main_arg5 : FVec F S3x64 .f32) (main_arg6 : FVec F S64 .f32) (main_arg7 : FVec F S64x1 .f32) (main_arg8 : FVec F S1 .f32) : IVec S_ 1 :=
  let main_v0 : FVec F S1x4x1024x3 .f32 := Host.absf main_arg0
  let main_cst : FVec F S_ .f32 := constant S_ .f32 0x7F800000#32
  let main_v1 : FVec F S1x4x1024x3 .f32 := broadcastInDim S1x4x1024x3 ![] bcast_S_S1x4x1024x3 main_cst
  let main_v2 : IVec S1x4x1024x3 1 := cmpf .olt main_v0 main_v1
  let main_c : IVec S_ 1 := constantI S_ 1 1#1
  let main_v3 : IVec S_ 1 := (fun x v => Host.reduce IntOp.andi x v reducesTo_S1x4x1024x3_S_d0_1_2_3 h_S_) main_v2 main_c
  let main_v4 : FVec F S64x3 .f32 := Host.absf main_arg3
  let main_cst_0 : FVec F S_ .f32 := constant S_ .f32 0x7F800000#32
  let main_v5 : FVec F S64x3 .f32 := broadcastInDim S64x3 ![] bcast_S_S64x3 main_cst_0
  let main_v6 : IVec S64x3 1 := cmpf .olt main_v4 main_v5
  let main_c_1 : IVec S_ 1 := constantI S_ 1 1#1
  let main_v7 : IVec S_ 1 := (fun x v => Host.reduce IntOp.andi x v reducesTo_S64x3_S_d0_1 h_S_) main_v6 main_c_1
  let main_v8 : IVec S_ 1 := andi main_v3 main_v7
  let main_v9 : FVec F S3 .f32 := Host.absf main_arg4
  let main_cst_2 : FVec F S_ .f32 := constant S_ .f32 0x7F800000#32
  let main_v10 : FVec F S3 .f32 := broadcastInDim S3 ![] bcast_S_S3 main_cst_2
  let main_v11 : IVec S3 1 := cmpf .olt main_v9 main_v10
  let main_c_3 : IVec S_ 1 := constantI S_ 1 1#1
  let main_v12 : IVec S_ 1 := (fun x v => Host.reduce IntOp.andi x v reducesTo_S3_S_d0 h_S_) main_v11 main_c_3
  let main_v13 : IVec S_ 1 := andi main_v8 main_v12
  let main_v14 : FVec F S64x1 .f32 := Host.absf main_arg7
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg8 main_v13 main_v16
-- ==== Kernel.lean ====
abbrev S1x4x1024x3 : Shape := ⟨4, ![1, 4, 1024, 3]⟩
abbrev S3x64 : Shape := ⟨2, ![3, 64]⟩
abbrev S64 : Shape := ⟨1, ![64]⟩
abbrev S64x3 : Shape := ⟨2, ![64, 3]⟩
abbrev S3 : Shape := ⟨1, ![3]⟩
abbrev S64x1 : Shape := ⟨2, ![64, 1]⟩
abbrev S1 : Shape := ⟨1, ![1]⟩
abbrev S2x6 : Shape := ⟨2, ![2, 6]⟩
abbrev S6x1x1024x1024 : Shape := ⟨4, ![6, 1, 1024, 1024]⟩
abbrev S3x1x1024x1024 : Shape := ⟨4, ![3, 1, 1024, 1024]⟩
abbrev S1x64 : Shape := ⟨2, ![1, 64]⟩
abbrev S1x3 : Shape := ⟨2, ![1, 3]⟩
abbrev S1x1 : Shape := ⟨2, ![1, 1]⟩
abbrev S3x1 : Shape := ⟨2, ![3, 1]⟩
abbrev S1x1x1024x3 : Shape := ⟨4, ![1, 1, 1024, 3]⟩
abbrev S1024x3 : Shape := ⟨2, ![1024, 3]⟩
abbrev S3x1024 : Shape := ⟨2, ![3, 1024]⟩
abbrev S1024x64 : Shape := ⟨2, ![1024, 64]⟩
abbrev S1024x1 : Shape := ⟨2, ![1024, 1]⟩
abbrev S64x1024 : Shape := ⟨2, ![64, 1024]⟩
abbrev S1x1024 : Shape := ⟨2, ![1, 1024]⟩
abbrev S1024x1024 : Shape := ⟨2, ![1024, 1024]⟩
abbrev S1024 : Shape := ⟨1, ![1024]⟩
abbrev S1x1x1024x1024 : Shape := ⟨4, ![1, 1, 1024, 1024]⟩

abbrev nBuf : Space → Nat
  | .hbm => 10
  | .vmem => 11
  | .smem => 1
  | _ => 0

abbrev bufTy : (tb : Table) → Fin (tcTables nBuf tb) → BufTy
  | .hbm, ⟨0, _⟩ => ⟨S1x4x1024x3, .f32⟩
  | .hbm, ⟨1, _⟩ => ⟨S3x64, .f32⟩
  | .hbm, ⟨2, _⟩ => ⟨S64, .f32⟩
  | .hbm, ⟨3, _⟩ => ⟨S64x3, .f32⟩
  | .hbm, ⟨4, _⟩ => ⟨S3, .f32⟩
  | .hbm, ⟨5, _⟩ => ⟨S3x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S6x1x1024x1024, .f32⟩
  | .local _ .vmem, ⟨0, _⟩ => ⟨S1x4x1024x3, .f32⟩
  | .local _ .vmem, ⟨1, _⟩ => ⟨S3x64, .f32⟩
  | .local _ .vmem, ⟨2, _⟩ => ⟨S64, .f32⟩
  | .local _ .vmem, ⟨3, _⟩ => ⟨S64x3, .f32⟩
  | .local _ .vmem, ⟨4, _⟩ => ⟨S3, .f32⟩
  | .local _ .vmem, ⟨5, _⟩ => ⟨S3x64, .f32⟩
  | .local _ .vmem, ⟨6, _⟩ => ⟨S64, .f32⟩
  | .local _ .vmem, ⟨7, _⟩ => ⟨S64x1, .f32⟩
  | .local _ .vmem, ⟨8, _⟩ => ⟨S1, .f32⟩
  | .local _ .vmem, ⟨9, _⟩ => ⟨S3x1x1024x1024, .f32⟩
  | .local _ .vmem, ⟨10, _⟩ => ⟨S3x1x1024x1024, .f32⟩
  | .local _ .smem, ⟨0, _⟩ => ⟨S2x6, .i32⟩
  | _, _ => ⟨S1x4x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg9_1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem9_1 : DmaSem sig := 10

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v19 : Index := Scalar.indexCast arg0
  let c0_11 : Index := 0#32
  ![v19.toNat, 0]
def k0_off2 (v20 : BitVec 32) : Fin 4 → Nat :=
  let c0_12 : Index := 0#32
  let v21 : Index := Scalar.indexCast v20
  let c0_13 : Index := 0#32
  let c0_14 : Index := 0#32
  ![0, v21.toNat, 0, 0]

def k0_chk1 (v20 : BitVec 32) : Prop :=
  (∀ a, (k0_off2 v20) a + S1x1x1024x3.size a ≤ S1x4x1024x3.size a)
theorem k0_off2_inb : ∀ (v20 : BitVec 32) (k0_hw1 : k0_chk1 v20), ∀ a, (k0_off2 v20) a + S1x1x1024x3.size a ≤ S1x4x1024x3.size a := fun v20 k0_hw1 => k0_hw1

def k0_off3 (i : grid0.Coords) : Fin 2 → Nat :=
  let arg0 : BitVec 32 := BitVec.ofNat 32 (i 0).val
  let v24 : Index := Scalar.indexCast arg0
  let c1 : Index := 1#32
  ![v24.toNat, 1]
def k0_off4 (v25 : BitVec 32) : Fin 4 → Nat :=
  let c0_15 : Index := 0#32
  let v26 : Index := Scalar.indexCast v25
  let c0_16 : Index := 0#32
  let c0_17 : Index := 0#32
  ![0, v26.toNat, 0, 0]

def k0_chk2 (v25 : BitVec 32) : Prop :=
  (∀ a, (k0_off4 v25) a + S1x1x1024x3.size a ≤ S1x4x1024x3.size a)
theorem k0_off4_inb : ∀ (v25 : BitVec 32) (k0_hw2 : k0_chk2 v25), ∀ a, (k0_off4 v25) a + S1x1x1024x3.size a ≤ S1x4x1024x3.size a := fun v25 k0_hw2 => k0_hw2

def k0_off5 (i : grid0.Coords) : Fin 2 → Nat :=
  let arg0 : BitVec 32 := BitVec.ofNat 32 (i 0).val
  let v144 : Index := Scalar.indexCast arg0
  let c2 : Index := 2#32
  ![v144.toNat, 2]
def k0_off6 (v145 : BitVec 32) : Fin 4 → Nat :=
  let c0_46 : Index := 0#32
  let v146 : Index := Scalar.indexCast v145
  let c0_47 : Index := 0#32
  let c0_48 : Index := 0#32
  ![0, v146.toNat, 0, 0]

def k0_chk3 (v145 : BitVec 32) : Prop :=
  (∀ a, (k0_off6 v145) a + S1x1x1024x3.size a ≤ S1x4x1024x3.size a)
theorem k0_off6_inb : ∀ (v145 : BitVec 32) (k0_hw3 : k0_chk3 v145), ∀ a, (k0_off6 v145) a + S1x1x1024x3.size a ≤ S1x4x1024x3.size a := fun v145 k0_hw3 => k0_hw3

def k0_off7 (i : grid0.Coords) : Fin 2 → Nat :=
  let arg0 : BitVec 32 := BitVec.ofNat 32 (i 0).val
  let v149 : Index := Scalar.indexCast arg0
  let c3 : Index := 3#32
  ![v149.toNat, 3]
def k0_off8 (v150 : BitVec 32) : Fin 4 → Nat :=
  let c0_49 : Index := 0#32
  let v151 : Index := Scalar.indexCast v150
  let c0_50 : Index := 0#32
  let c0_51 : Index := 0#32
  ![0, v151.toNat, 0, 0]

def k0_chk4 (v150 : BitVec 32) : Prop :=
  (∀ a, (k0_off8 v150) a + S1x1x1024x3.size a ≤ S1x4x1024x3.size a)
theorem k0_off8_inb : ∀ (v150 : BitVec 32) (k0_hw4 : k0_chk4 v150), ∀ a, (k0_off8 v150) a + S1x1x1024x3.size a ≤ S1x4x1024x3.size a := fun v150 k0_hw4 => k0_hw4

def k0_off9 (i : grid0.Coords) : Fin 2 → Nat :=
  let arg0 : BitVec 32 := BitVec.ofNat 32 (i 0).val
  let v269 : Index := Scalar.indexCast arg0
  let c4 : Index := 4#32
  ![v269.toNat, 4]
def k0_off10 (v270 : BitVec 32) : Fin 4 → Nat :=
  let c0_81 : Index := 0#32
  let v271 : Index := Scalar.indexCast v270
  let c0_82 : Index := 0#32
  let c0_83 : Index := 0#32
  ![0, v271.toNat, 0, 0]

def k0_chk5 (v270 : BitVec 32) : Prop :=
  (∀ a, (k0_off10 v270) a + S1x1x1024x3.size a ≤ S1x4x1024x3.size a)
theorem k0_off10_inb : ∀ (v270 : BitVec 32) (k0_hw5 : k0_chk5 v270), ∀ a, (k0_off10 v270) a + S1x1x1024x3.size a ≤ S1x4x1024x3.size a := fun v270 k0_hw5 => k0_hw5

def k0_off11 (i : grid0.Coords) : Fin 2 → Nat :=
  let arg0 : BitVec 32 := BitVec.ofNat 32 (i 0).val
  let v274 : Index := Scalar.indexCast arg0
  let c5 : Index := 5#32
  ![v274.toNat, 5]
def k0_off12 (v275 : BitVec 32) : Fin 4 → Nat :=
  let c0_84 : Index := 0#32
  let v276 : Index := Scalar.indexCast v275
  let c0_85 : Index := 0#32
  let c0_86 : Index := 0#32
  ![0, v276.toNat, 0, 0]

def k0_chk6 (v275 : BitVec 32) : Prop :=
  (∀ a, (k0_off12 v275) a + S1x1x1024x3.size a ≤ S1x4x1024x3.size a)
theorem k0_off12_inb : ∀ (v275 : BitVec 32) (k0_hw6 : k0_chk6 v275), ∀ a, (k0_off12 v275) a + S1x1x1024x3.size a ≤ S1x4x1024x3.size a := fun v275 k0_hw6 => k0_hw6

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S1x4x1024x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S3x1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
variable {F : FTy → Type} [FloatOps F] [Named F]
def κ : String → Option EReal := fun
  | "log2e_over_t" => some (((Real.log 2)⁻¹ * (5368709 / 536870912)⁻¹ : ℝ) : EReal)
  | _ => none
-- ==== ReferenceIdeal.lean ====
abbrev S1x4x1024x3 : Shape := ⟨4, ![1, 4, 1024, 3]⟩
abbrev S3x64 : Shape := ⟨2, ![3, 64]⟩
abbrev S64 : Shape := ⟨1, ![64]⟩
abbrev S64x3 : Shape := ⟨2, ![64, 3]⟩
abbrev S3 : Shape := ⟨1, ![3]⟩
abbrev S64x1 : Shape := ⟨2, ![64, 1]⟩
abbrev S1 : Shape := ⟨1, ![1]⟩
abbrev S1x1x1024x3 : Shape := ⟨4, ![1, 1, 1024, 3]⟩
abbrev S1x1024x3 : Shape := ⟨3, ![1, 1024, 3]⟩
abbrev S6x1024x3 : Shape := ⟨3, ![6, 1024, 3]⟩
abbrev S6x1024x64 : Shape := ⟨3, ![6, 1024, 64]⟩
abbrev S1x1x64 : Shape := ⟨3, ![1, 1, 64]⟩
abbrev S1x1x3 : Shape := ⟨3, ![1, 1, 3]⟩
abbrev S6x1024x1 : Shape := ⟨3, ![6, 1024, 1]⟩
abbrev S1x1x1 : Shape := ⟨3, ![1, 1, 1]⟩
abbrev S6x1024 : Shape := ⟨2, ![6, 1024]⟩
abbrev S_ : Shape := ⟨0, ![]⟩
abbrev S6x1024x1x3 : Shape := ⟨4, ![6, 1024, 1, 3]⟩
abbrev S6x1x1024x3 : Shape := ⟨4, ![6, 1, 1024, 3]⟩
abbrev S6x1024x1024x3 : Shape := ⟨4, ![6, 1024, 1024, 3]⟩
abbrev S6x1024x1024 : Shape := ⟨3, ![6, 1024, 1024]⟩
abbrev S6x1x1024 : Shape := ⟨3, ![6, 1, 1024]⟩
abbrev S6x1x1024x1024 : Shape := ⟨4, ![6, 1, 1024, 1024]⟩

abbrev nBuf : Space → Nat
  | .hbm => 159
  | .vmem => 0
  | .smem => 0
  | _ => 0

abbrev hbmTy0_0 (i : Nat) : BufTy := match i % 128 with
  | 0 => ⟨S1x4x1024x3, .f32⟩
  | 1 => ⟨S3x64, .f32⟩
  | 2 => ⟨S64, .f32⟩
  | 3 => ⟨S64x3, .f32⟩
  | 4 => ⟨S3, .f32⟩
  | 5 => ⟨S3x64, .f32⟩
  | 6 => ⟨S64, .f32⟩
  | 7 => ⟨S64x1, .f32⟩
  | 8 => ⟨S1, .f32⟩
  | 9 => ⟨S1x1x1024x3, .f32⟩
  | 10 => ⟨S1x1024x3, .f32⟩
  | 11 => ⟨S1x1x1024x3, .f32⟩
  | 12 => ⟨S1x1024x3, .f32⟩
  | 13 => ⟨S1x1x1024x3, .f32⟩
  | 14 => ⟨S1x1024x3, .f32⟩
  | 15 => ⟨S1x1x1024x3, .f32⟩
  | 16 => ⟨S1x1024x3, .f32⟩
  | 17 => ⟨S1x1x1024x3, .f32⟩
  | 18 => ⟨S1x1024x3, .f32⟩
  | 19 => ⟨S1x1x1024x3, .f32⟩
  | 20 => ⟨S1x1024x3, .f32⟩
  | 21 => ⟨S6x1024x3, .f32⟩
  | 22 => ⟨S1x1x1024x3, .f32⟩
  | 23 => ⟨S1x1024x3, .f32⟩
  | 24 => ⟨S1x1x1024x3, .f32⟩
  | 25 => ⟨S1x1024x3, .f32⟩
  | 26 => ⟨S1x1x1024x3, .f32⟩
  | 27 => ⟨S1x1024x3, .f32⟩
  | 28 => ⟨S1x1x1024x3, .f32⟩
  | 29 => ⟨S1x1024x3, .f32⟩
  | 30 => ⟨S1x1x1024x3, .f32⟩
  | 31 => ⟨S1x1024x3, .f32⟩
  | 32 => ⟨S1x1x1024x3, .f32⟩
  | 33 => ⟨S1x1024x3, .f32⟩
  | 34 => ⟨S6x1024x3, .f32⟩
  | 35 => ⟨S6x1024x64, .f32⟩
  | 36 => ⟨S1x1x64, .f32⟩
  | 37 => ⟨S6x1024x64, .f32⟩
  | 38 => ⟨S6x1024x64, .f32⟩
  | 39 => ⟨S6x1024x64, .f32⟩
  | 40 => ⟨S6x1024x3, .f32⟩
  | 41 => ⟨S1x1x3, .f32⟩
  | 42 => ⟨S6x1024x3, .f32⟩
  | 43 => ⟨S6x1024x3, .f32⟩
  | 44 => ⟨S6x1024x64, .f32⟩
  | 45 => ⟨S1x1x64, .f32⟩
  | 46 => ⟨S6x1024x64, .f32⟩
  | 47 => ⟨S6x1024x64, .f32⟩
  | 48 => ⟨S6x1024x64, .f32⟩
  | 49 => ⟨S6x1024x3, .f32⟩
  | 50 => ⟨S1x1x3, .f32⟩
  | 51 => ⟨S6x1024x3, .f32⟩
  | 52 => ⟨S6x1024x3, .f32⟩
  | 53 => ⟨S6x1024x3, .f32⟩
  | 54 => ⟨S6x1024x64, .f32⟩
  | 55 => ⟨S1x1x64, .f32⟩
  | 56 => ⟨S6x1024x64, .f32⟩
  | 57 => ⟨S6x1024x64, .f32⟩
  | 58 => ⟨S6x1024x64, .f32⟩
  | 59 => ⟨S6x1024x1, .f32⟩
  | 60 => ⟨S1x1x1, .f32⟩
  | 61 => ⟨S6x1024x1, .f32⟩
  | 62 => ⟨S6x1024x1, .f32⟩
  | 63 => ⟨S6x1024, .f32⟩
  | 64 => ⟨S6x1024, .f32⟩
  | 65 => ⟨S6x1024, .f32⟩
  | 66 => ⟨S_, .f32⟩
  | 67 => ⟨S6x1024, .f32⟩
  | 68 => ⟨S6x1024, .f32⟩
  | 69 => ⟨S_, .f32⟩
  | 70 => ⟨S6x1024, .f32⟩
  | 71 => ⟨S6x1024, .f32⟩
  | 72 => ⟨S6x1024x3, .f32⟩
  | 73 => ⟨S6x1024x64, .f32⟩
  | 74 => ⟨S1x1x64, .f32⟩
  | 75 => ⟨S6x1024x64, .f32⟩
  | 76 => ⟨S6x1024x64, .f32⟩
  | 77 => ⟨S6x1024x64, .f32⟩
  | 78 => ⟨S6x1024x1, .f32⟩
  | 79 => ⟨S1x1x1, .f32⟩
  | 80 => ⟨S6x1024x1, .f32⟩
  | 81 => ⟨S6x1024x1, .f32⟩
  | 82 => ⟨S6x1024, .f32⟩
  | 83 => ⟨S6x1024, .f32⟩
  | 84 => ⟨S6x1024, .f32⟩
  | 85 => ⟨S_, .f32⟩
  | 86 => ⟨S6x1024, .f32⟩
  | 87 => ⟨S6x1024, .f32⟩
  | 88 => ⟨S_, .f32⟩
  | 89 => ⟨S6x1024, .f32⟩
  | 90 => ⟨S6x1024, .f32⟩
  | 91 => ⟨S6x1024x3, .f32⟩
  | 92 => ⟨S6x1024x1x3, .f32⟩
  | 93 => ⟨S6x1x1024x3, .f32⟩
  | 94 => ⟨S6x1024x1024x3, .f32⟩
  | 95 => ⟨S6x1024x1024x3, .f32⟩
  | 96 => ⟨S6x1024x1024x3, .f32⟩
  | 97 => ⟨S6x1024x1024x3, .f32⟩
  | 98 => ⟨S_, .f32⟩
  | 99 => ⟨S6x1024x1024, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S6x1024x1024, .f32⟩
  | 108 => ⟨S6x1024x1024, .f32⟩
  | 109 => ⟨S6x1024x1024, .f32⟩
  | 110 => ⟨S6x1024x1024, .f32⟩
  | 111 => ⟨S6x1024x3, .f32⟩
  | 112 => ⟨S6x1024x1x3, .f32⟩
  | 113 => ⟨S6x1x1024x3, .f32⟩
  | 114 => ⟨S6x1024x1024x3, .f32⟩
  | 115 => ⟨S6x1024x1024x3, .f32⟩
  | 116 => ⟨S6x1024x1024x3, .f32⟩
  | 117 => ⟨S6x1024x1024x3, .f32⟩
  | 118 => ⟨S_, .f32⟩
  | 119 => ⟨S6x1024x1024, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S6x1024x1024, .f32⟩
  | _ => ⟨S1x4x1024x3, .f32⟩

abbrev hbmTy0_1 (i : Nat) : BufTy := match i % 128 with
  | 0 => ⟨S6x1024x1024, .f32⟩
  | 1 => ⟨S6x1024x1024, .f32⟩
  | 2 => ⟨S6x1024x1024, .f32⟩
  | 3 => ⟨S6x1024x1, .f32⟩
  | 4 => ⟨S6x1024x1024, .f32⟩
  | 5 => ⟨S6x1x1024, .f32⟩
  | 6 => ⟨S6x1024x1024, .f32⟩
  | 7 => ⟨S6x1024x1024, .f32⟩
  | 8 => ⟨S6x1024x1024, .f32⟩
  | 9 => ⟨S6x1024x1024, .f32⟩
  | 10 => ⟨S6x1024x1024, .f32⟩
  | 11 => ⟨S6x1024x1024, .f32⟩
  | 12 => ⟨S6x1024x1024, .f32⟩
  | 13 => ⟨S_, .f32⟩
  | 14 => ⟨S6x1024x1024, .f32⟩
  | 15 => ⟨S6x1024x1024, .f32⟩
  | 16 => ⟨S_, .f32⟩
  | 17 => ⟨S6x1024, .f32⟩
  | 18 => ⟨S_, .f32⟩
  | 19 => ⟨S6x1024, .f32⟩
  | 20 => ⟨S6x1024, .f32⟩
  | 21 => ⟨S6x1024x1, .f32⟩
  | 22 => ⟨S6x1024x1024, .f32⟩
  | 23 => ⟨S6x1024x1024, .f32⟩
  | 24 => ⟨S6x1024x1024, .f32⟩
  | 25 => ⟨S_, .f32⟩
  | 26 => ⟨S6x1024, .f32⟩
  | 27 => ⟨S6x1024x1, .f32⟩
  | 28 => ⟨S6x1024x1024, .f32⟩
  | 29 => ⟨S6x1024x1024, .f32⟩
  | 30 => ⟨S6x1x1024x1024, .f32⟩
  | _ => ⟨S1x4x1024x3, .f32⟩

abbrev hbmTy (i : Nat) : BufTy := match i / 128 with
  | 0 => hbmTy0_0 i
  | 1 => hbmTy0_1 i
  | _ => ⟨S1x4x1024x3, .f32⟩

abbrev bufTy : (tb : Table) → Fin (tcTables nBuf tb) → BufTy
  | .hbm, ⟨i, _⟩ => hbmTy i
  | _, _ => ⟨S1x4x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_cst : Ref sig .tc := ⟨.hbm, 66, rfl⟩
abbrev main_v57 : Ref sig .tc := ⟨.hbm, 67, rfl⟩
abbrev main_v58 : Ref sig .tc := ⟨.hbm, 68, rfl⟩
abbrev main_cst_0 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_cst_1 : Ref sig .tc := ⟨.hbm, 85, rfl⟩
abbrev main_v74 : Ref sig .tc := ⟨.hbm, 86, rfl⟩
abbrev main_v75 : Ref sig .tc := ⟨.hbm, 87, rfl⟩
abbrev main_cst_2 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_cst_3 : Ref sig .tc := ⟨.hbm, 98, rfl⟩
abbrev main_v85 : Ref sig .tc := ⟨.hbm, 99, rfl⟩
abbrev main_cst_4 : Ref sig .tc := ⟨.hbm, 100, rfl⟩
abbrev main_v86 : Ref sig .tc := ⟨.hbm, 101, rfl⟩
abbrev main_cst_5 : Ref sig .tc := ⟨.hbm, 102, rfl⟩
abbrev main_v87 : Ref sig .tc := ⟨.hbm, 103, rfl⟩
abbrev main_v88 : Ref sig .tc := ⟨.hbm, 104, rfl⟩
abbrev main_cst_6 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_cst_7 : Ref sig .tc := ⟨.hbm, 118, rfl⟩
abbrev main_v101 : Ref sig .tc := ⟨.hbm, 119, rfl⟩
abbrev main_cst_8 : Ref sig .tc := ⟨.hbm, 120, rfl⟩
abbrev main_v102 : Ref sig .tc := ⟨.hbm, 121, rfl⟩
abbrev main_cst_9 : Ref sig .tc := ⟨.hbm, 122, rfl⟩
abbrev main_v103 : Ref sig .tc := ⟨.hbm, 123, rfl⟩
abbrev main_v104 : Ref sig .tc := ⟨.hbm, 124, rfl⟩
abbrev main_cst_10 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_cst_11 : Ref sig .tc := ⟨.hbm, 141, rfl⟩
abbrev main_v120 : Ref sig .tc := ⟨.hbm, 142, rfl⟩
abbrev main_v121 : Ref sig .tc := ⟨.hbm, 143, rfl⟩
abbrev main_cst_12 : Ref sig .tc := ⟨.hbm, 144, rfl⟩
abbrev main_v122 : Ref sig .tc := ⟨.hbm, 145, rfl⟩
abbrev main_cst_13 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_cst_14 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩

abbrev nD : Nat := 1
abbrev τ : Topo := Topo.v7x

variable {F : FTy → Type} [FloatOps F]
-- ==== Proof.Table.lean ====
/- The side conditions of the two printed kernels: the prefetched table of view numbers is the literal one, so every
   word that the body loads from it is below 4 and names a view inside the point cloud. -/
module

public import proofs.«01_k».proof.Proof.Gen.Kernel.Frame
public import proofs.«01_k».proof.Proof.Gen.KernelIdeal.Frame

@[expose] public section

set_option maxRecDepth 16384

noncomputable section

namespace Cert.TableIdeal

open Cert.KernelIdeal Cert.KernelIdeal.Gen
open Idealize.ShloMosaic Idealize.ShloMosaic.TcCoe

variable {F : FTy → Type} [FloatOps F] [Named F]

/-- The table that the launch finds: the literal of twelve view numbers, row by row. -/
theorem tbl_apply (m : (ℓ : Loc nD τ sig) → Buf (Elt F) ℓ) (i : S2x6.Idx) :
    tbl m 0 i = lit0 (S2x6.rowMajor i) := rfl

/-- No window's index map reads the table. -/
theorem ok (m : (ℓ : Loc nD τ sig) → Buf (Elt F) ℓ) : Ok m := trivial

/-- Every word of the table is at most 3. -/
theorem lit0_lt : ∀ k : Fin 12, (lit0 k).toNat < 4 := by decide

/-- Every word that the body loads from the table is at most 3. -/
theorem word_lt (m : (ℓ : Loc nD τ sig) → Buf (Elt F) ℓ) (r : Rect S2x6) (x) :
    (tbM0_0.view.readAt (Elt F) r.toLoadRect (tbl m 0) x : BitVec 32).toNat < 4 :=
  lit0_lt _

/-- A word below 4 is one of four. -/
theorem four (v : BitVec 32) (h : v.toNat < 4) : v = 0#32 ∨ v = 1#32 ∨ v = 2#32 ∨ v = 3#32 := by
  have h' : v.toNat = 0 ∨ v.toNat = 1 ∨ v.toNat = 2 ∨ v.toNat = 3 := by omega
  rcases h' with h' | h' | h' | h'
  · exact Or.inl (BitVec.eq_of_toNat_eq h')
  · exact Or.inr (Or.inl (BitVec.eq_of_toNat_eq h'))
  · exact Or.inr (Or.inr (Or.inl (BitVec.eq_of_toNat_eq h')))
  · exact Or.inr (Or.inr (Or.inr (BitVec.eq_of_toNat_eq h')))

theorem chk1 (v : BitVec 32) (h : v.toNat < 4) : k0_chk1 v := by
  rcases four v h with rfl | rfl | rfl | rfl <;> decide

theorem chk2 (v : BitVec 32) (h : v.toNat < 4) : k0_chk2 v := by
  rcases four v h with rfl | rfl | rfl | rfl <;> decide

theorem chk3 (v : BitVec 32) (h : v.toNat < 4) : k0_chk3 v := by
  rcases four v h with rfl | rfl | rfl | rfl <;> decide

theorem chk4 (v : BitVec 32) (h : v.toNat < 4) : k0_chk4 v := by
  rcases four v h with rfl | rfl | rfl | rfl <;> decide

theorem chk5 (v : BitVec 32) (h : v.toNat < 4) : k0_chk5 v := by
  rcases four v h with rfl | rfl | rfl | rfl <;> decide

theorem chk6 (v : BitVec 32) (h : v.toNat < 4) : k0_chk6 v := by
  rcases four v h with rfl | rfl | rfl | rfl <;> decide

/-- At every grid point each of the six loaded words names a view of the point cloud. -/
theorem hyps (m : (ℓ : Loc nD τ sig) → Buf (Elt F) ℓ) : Hyps m (ok m) :=
  Hyps.of (fun _ _ => chk1 _ (word_lt m _ _)) (fun _ _ => chk2 _ (word_lt m _ _))
    (fun _ _ => chk3 _ (word_lt m _ _)) (fun _ _ => chk4 _ (word_lt m _ _))
    (fun _ _ => chk5 _ (word_lt m _ _)) (fun _ _ => chk6 _ (word_lt m _ _))

end Cert.TableIdeal

namespace Cert.TableKernel

open Cert.Kernel Cert.Kernel.Gen
open Idealize.ShloMosaic Idealize.ShloMosaic.TcCoe

variable {F : FTy → Type} [FloatOps F]

/-- The table that the launch finds: the literal of twelve view numbers, row by row. -/
theorem tbl_apply (m : (ℓ : Loc nD τ sig) → Buf (Elt F) ℓ) (i : S2x6.Idx) :
    tbl m 0 i = lit0 (S2x6.rowMajor i) := rfl

/-- No window's index map reads the table. -/
theorem ok (m : (ℓ : Loc nD τ sig) → Buf (Elt F) ℓ) : Ok m := trivial

/-- Every word of the table is at most 3. -/
theorem lit0_lt : ∀ k : Fin 12, (lit0 k).toNat < 4 := by decide

/-- Every word that the body loads from the table is at most 3. -/
theorem word_lt (m : (ℓ : Loc nD τ sig) → Buf (Elt F) ℓ) (r : Rect S2x6) (x) :
    (tbM0_0.view.readAt (Elt F) r.toLoadRect (tbl m 0) x : BitVec 32).toNat < 4 :=
  lit0_lt _

/-- A word below 4 is one of four. -/
theorem four (v : BitVec 32) (h : v.toNat < 4) : v = 0#32 ∨ v = 1#32 ∨ v = 2#32 ∨ v = 3#32 := by
  have h' : v.toNat = 0 ∨ v.toNat = 1 ∨ v.toNat = 2 ∨ v.toNat = 3 := by omega
  rcases h' with h' | h' | h' | h'
  · exact Or.inl (BitVec.eq_of_toNat_eq h')
  · exact Or.inr (Or.inl (BitVec.eq_of_toNat_eq h'))
  · exact Or.inr (Or.inr (Or.inl (BitVec.eq_of_toNat_eq h')))
  · exact Or.inr (Or.inr (Or.inr (BitVec.eq_of_toNat_eq h')))

theorem chk1 (v : BitVec 32) (h : v.toNat < 4) : k0_chk1 v := by
  rcases four v h with rfl | rfl | rfl | rfl <;> decide

theorem chk2 (v : BitVec 32) (h : v.toNat < 4) : k0_chk2 v := by
  rcases four v h with rfl | rfl | rfl | rfl <;> decide

theorem chk3 (v : BitVec 32) (h : v.toNat < 4) : k0_chk3 v := by
  rcases four v h with rfl | rfl | rfl | rfl <;> decide

theorem chk4 (v : BitVec 32) (h : v.toNat < 4) : k0_chk4 v := by
  rcases four v h with rfl | rfl | rfl | rfl <;> decide

theorem chk5 (v : BitVec 32) (h : v.toNat < 4) : k0_chk5 v := by
  rcases four v h with rfl | rfl | rfl | rfl <;> decide

theorem chk6 (v : BitVec 32) (h : v.toNat < 4) : k0_chk6 v := by
  rcases four v h with rfl | rfl | rfl | rfl <;> decide

/-- At every grid point each of the six loaded words names a view of the point cloud. -/
theorem hyps (m : (ℓ : Loc nD τ sig) → Buf (Elt F) ℓ) : Hyps m (ok m) :=
  Hyps.of (fun _ _ => chk1 _ (word_lt m _ _)) (fun _ _ => chk2 _ (word_lt m _ _))
    (fun _ _ => chk3 _ (word_lt m _ _)) (fun _ _ => chk4 _ (word_lt m _ _))
    (fun _ _ => chk5 _ (word_lt m _ _)) (fun _ _ => chk6 _ (word_lt m _ _))

end Cert.TableKernel
-- ==== Proof.Frames.lean ====
/- The claims that say where the programs leave memory: the printed kernel, at the formats and over the extended reals,
   and the printed reference keep their arguments and end with every semaphore counter at zero. -/
module

public import proofs.«01_k».proof.Defs
public import proofs.«01_k».proof.Proof.Table
public import proofs.«01_k».proof.Proof.Gen.ReferenceIdeal
public import proofs.«01_k».proof.Proof.Gen.ReferenceIdeal.Run
public import proofs.«01_k».proof.Proof.Gen.Pre_finite
public import Idealize.ShloMosaic.Adequacy
public import Idealize.ShloMosaic.Init

@[expose] public section

noncomputable section

namespace Cert.Frames

open Idealize.ShloMosaic Idealize.SL.Sem Idealize.ShloMosaic.TcCoe

/-- The printed kernel at the formats runs, keeps its arguments and ends with every counter at zero. -/
theorem kernel : Cert.quiescent_Kernel := fun m g _ =>
  Cert.Kernel.Gen.frame m g (Cert.TableKernel.ok m) (Cert.TableKernel.hyps m)

/-- So does the printed kernel over the extended reals, at any arguments. -/
theorem kernelIdeal : Cert.quiescent_KernelIdeal := fun m g _ =>
  Cert.KernelIdeal.Gen.frame m g (Cert.TableIdeal.ok m) (Cert.TableIdeal.hyps m)

/-- So does the printed kernel over the extended reals, at finite arguments. -/
theorem kernelIdeal_finite : Cert.quiescent_KernelIdeal_pre_finite := fun m g _ =>
  Cert.KernelIdeal.Gen.frame m g (Cert.TableIdeal.ok m) (Cert.TableIdeal.hyps m)

/-- So does the printed reference, at any arguments: it writes no argument and declares no semaphore. -/
theorem reference : Cert.quiescent_ReferenceIdeal := fun m g _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m g)

/-- So does the printed reference, at finite arguments. -/
theorem reference_finite : Cert.quiescent_ReferenceIdeal_pre_finite := fun m g _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m g)

/-- The constant that the idealized kernel names is the named one: the reciprocal of log 2 times the temperature. -/
theorem preserves : Cert.preserves_Kernel_KernelIdeal :=
  IdealRules.named_const.statement Cert.KernelIdeal.κ "log2e_over_t" .f32 0x431044FE#32
    (((Real.log 2)⁻¹ * (5368709 / 536870912)⁻¹ : ℝ) : EReal) rfl

end Cert.Frames

end
-- ==== Proof.Finite.lean ====
/- What the precondition `finite` says of the arrays it names: every element of the points, and of the flow's and the
   confidence's output layers, is a real. -/
module

public import proofs.«01_k».proof.Proof.Gen.Pre_finite
public import Idealize.ShloMosaic.Lib.ReduceAll
public import Idealize.ShloMosaic.Lib.Pointwise

@[expose] public section

noncomputable section

namespace Cert.Finite

open Cert.Pre_finite
open Idealize.ShloMosaic

/-- The word of infinity is the greatest extended real. -/
theorem top_word : Ideal.ofBits .f32 0x7F800000#32 = ⊤ := by
  simp [Ideal.ofBits, Ideal.ieee]

/-- An extended real whose absolute value is below infinity is a real. -/
theorem real_of_abs (x : EReal) (h : BitVec.ofBool (decide (max x (-x) < (⊤ : EReal))) = 1#1) : ∃ r : ℝ, x = (r : EReal) := by
  have hlt : max x (-x) < (⊤ : EReal) := by
    by_contra hn
    rw [decide_eq_false hn] at h
    exact absurd h (by decide)
  induction x using EReal.rec with
  | bot => simp at hlt
  | top => simp at hlt
  | coe r => exact ⟨r, rfl⟩

/-- An array all of whose elements compare below infinity in absolute value holds reals. -/
theorem real_of_all {s : Shape} {axes : List (Fin s.rank)} (x : FVec Ideal s .f32) (hb : S_.BroadcastsInDim s (![] : Fin 0 → Fin s.rank))
    (h : s.ReducesTo axes S_) (hu : 0 < S_.numel) (j : S_.Idx)
    (e : Host.reduce IntOp.andi (cmpf .olt (Host.absf x) (broadcastInDim s ![] hb (constant S_ .f32 0x7F800000#32))) (constantI S_ 1 1#1) h hu j = 1#1)
    (i : s.Idx) : ∃ r : ℝ, x i = (r : EReal) := by
  haveI : Subsingleton S_.Idx := ⟨fun a b => funext fun k => k.elim0⟩
  have h1 := Host.reduce_andi_all _ _ _ _ j e i
  refine real_of_abs (x i) ?_
  rw [← top_word]
  exact h1

/-- The precondition, opened: the five arrays hold reals. -/
theorem reals (x0 : FVec Ideal S1x4x1024x3 .f32) (x1 : FVec Ideal S3x64 .f32) (x2 : FVec Ideal S64 .f32) (x3 : FVec Ideal S64x3 .f32)
    (x4 : FVec Ideal S3 .f32) (x5 : FVec Ideal S3x64 .f32) (x6 : FVec Ideal S64 .f32) (x7 : FVec Ideal S64x1 .f32) (x8 : FVec Ideal S1 .f32)
    (h : fn (F := Ideal) x0 x1 x2 x3 x4 x5 x6 x7 x8 = fun _ => 1#1) :
    (∀ i, ∃ r : ℝ, x0 i = (r : EReal)) ∧ (∀ i, ∃ r : ℝ, x3 i = (r : EReal)) ∧ (∀ i, ∃ r : ℝ, x4 i = (r : EReal))
      ∧ (∀ i, ∃ r : ℝ, x7 i = (r : EReal)) ∧ (∀ i, ∃ r : ℝ, x8 i = (r : EReal)) := by
  have e := congrFun h (fun k => k.elim0)
  dsimp only [fn, fn_part1] at e
  obtain ⟨e, h8⟩ := IntOp.andi_eq_one.1 e
  obtain ⟨e, h7⟩ := IntOp.andi_eq_one.1 e
  obtain ⟨e, h4⟩ := IntOp.andi_eq_one.1 e
  obtain ⟨h0, h3⟩ := IntOp.andi_eq_one.1 e
  exact ⟨real_of_all x0 _ _ _ _ h0, real_of_all x3 _ _ _ _ h3, real_of_all x4 _ _ _ _ h4, real_of_all x7 _ _ _ _ h7, real_of_all x8 _ _ _ _ h8⟩

end Cert.Finite
-- ==== Proof.Spec.lean ====
/- What the kernel and the reference compute, at one element, as functions of the point coordinates and of the weights
   over the extended reals: the per-point networks both share, and the two forms of one row of the soft assignment. -/
module

public import Idealize.ShloMosaic.PureOps.Ideal

@[expose] public section

noncomputable section

namespace Cert.Spec

open Idealize.ShloMosaic

/-- A point of the cloud: its three coordinates. -/
abbrev Pt := Fin 3 → EReal

/-- The first view of each of the six pairs. -/
def left : Fin 6 → Fin 4 := ![0, 0, 0, 1, 1, 2]

/-- The second view of each of the six pairs. -/
def right : Fin 6 → Fin 4 := ![1, 2, 3, 2, 3, 3]

/-- Hidden unit `n` of a per-point network at the point `p`. -/
def hid (W : Fin 3 → Fin 64 → EReal) (b : Fin 64 → EReal) (p : Pt) (n : Fin 64) : EReal :=
  Ideal.tanh (∑ k, p k * W k n + b n)

/-- The point `p` moved by its flow. -/
def moved (W1 : Fin 3 → Fin 64 → EReal) (b1 : Fin 64 → EReal) (W2 : Fin 64 → Fin 3 → EReal) (b2 : Fin 3 → EReal)
    (p : Pt) : Pt :=
  fun k => p k + (∑ n, hid W1 b1 p n * W2 n k + b2 k)

/-- The confidence of the moved point `a`. -/
def conf (W1 : Fin 3 → Fin 64 → EReal) (b1 : Fin 64 → EReal) (W2 : Fin 64 → EReal) (b2 : EReal) (a : Pt) : EReal :=
  Ideal.logistic (∑ n, hid W1 b1 a n * W2 n + b2)

/-- The temperature, as the programs spell it. -/
def temp : EReal := Ideal.ofBits .f32 0x3C23D70A#32

/-- The guard under the roots, as the programs spell it. -/
def guard : EReal := Ideal.ofBits .f32 0x179ABE15#32

/-- The factor by which the kernel scales every coordinate. -/
def scale : EReal := (((Real.log 2)⁻¹ * (5368709 / 536870912)⁻¹ : ℝ) : EReal)

/-- The kernel's squared distance of the scaled points, with the guard. -/
def kerSq (a p : Pt) : EReal :=
  (a 0 * scale - p 0 * scale) * (a 0 * scale - p 0 * scale) + (a 1 * scale - p 1 * scale) * (a 1 * scale - p 1 * scale)
    + ((a 2 * scale - p 2 * scale) * (a 2 * scale - p 2 * scale) + guard)

/-- The kernel's scaled distance. -/
def kerDist (a p : Pt) : EReal := kerSq a p * Ideal.rsqrt (kerSq a p)

/-- The kernel's blend of the two distances: `a`, `b` the moved points, `p`, `q` the points, `u`, `v` the confidences. -/
def kerBlend (a p : Pt) (u : EReal) (b q : Pt) (v : EReal) : EReal :=
  kerDist a q + (kerDist p b - kerDist a q) * Ideal.div v (u + v)

/-- Entry `r` of a row of the kernel's soft assignment, from the row's blends. -/
def kerRow (x : Fin 1024 → EReal) (r : Fin 1024) : EReal :=
  Ideal.exp2 (Finset.univ.fold min ⊤ x - x r)
    * Ideal.div 1 (∑ k, Ideal.exp2 (Finset.univ.fold min ⊤ x - x k))

/-- The reference's distance of two points, with the guard. -/
def refDist (a p : Pt) : EReal :=
  Ideal.sqrt (∑ k, (a k - p k) * (a k - p k)
    + guard * (temp * Ideal.log (Ideal.ofBits .f32 0x40000000#32) * (temp * Ideal.log (Ideal.ofBits .f32 0x40000000#32))))

/-- `reference.py`'s distance of two points: the squared distance is clamped from below. -/
def clampDist (a p : Pt) : EReal :=
  Ideal.sqrt (max (∑ k, (a k - p k) * (a k - p k)) (Ideal.ofBits .f32 0x2B8CBCCC#32))

/-- The logit by a given distance, of the same arguments as `kerBlend`. -/
def logitBy (dist : Pt → Pt → EReal) (a p : Pt) (u : EReal) (b q : Pt) (v : EReal) : EReal :=
  Ideal.div (-(dist a q) * Ideal.div u (u + v) + -(dist p b) * Ideal.div v (u + v)) temp

/-- The logit by the distance with the guard. -/
abbrev refLogit : Pt → Pt → EReal → Pt → Pt → EReal → EReal := logitBy refDist

/-- Entry `r` of a row of the reference's softmax, from the row's logits. -/
def refRow (x : Fin 1024 → EReal) (r : Fin 1024) : EReal :=
  Ideal.div (Ideal.exp (x r - Finset.univ.fold max ⊥ x)) (∑ k, Ideal.exp (x k - Finset.univ.fold max ⊥ x))

end Cert.Spec

end
-- ==== Proof.KerPoint.lean ====
/- What the kernel's vector operations for one pair of views compute, read at one element over the extended reals:
   the moved points and the confidences of both clouds, the blend of the two distances, and the finished row. -/
module

public import proofs.«01_k».proof.Proof.Spec
public import proofs.«01_k».proof.Proof.Gen.KernelIdeal.Skeleton
public import Idealize.ShloMosaic.Lib.Pointwise

@[expose] public section

set_option maxRecDepth 16384

noncomputable section

namespace Cert.KerPoint

open Cert.KernelIdeal Cert.KernelIdeal.Gen
open Idealize.ShloMosaic Idealize.ShloMosaic.TcCoe

/-- The point `r` of a loaded view. -/
abbrev pt (x : FVec Ideal S1x1x1024x3 .f32) (r : Fin 1024) : Spec.Pt := fun k => x (ix4 0 0 r k)

/-- A point of the first cloud, moved. -/
theorem moved_i (b1 : FVec Ideal S64 .f32) (b2 : FVec Ideal S3 .f32) (x : FVec Ideal S1x1x1024x3 .f32)
    (w1 : FVec Ideal S3x64 .f32) (w2 : FVec Ideal S64x3 .f32) (r : Fin 1024) (k : Fin 3) :
    k0_pay16 (F := Ideal) (k0_pay2 b1) (k0_pay3 b2) (k0_pay13 x) w1 w2 (ix2 r k)
      = Spec.moved (fun k n => w1 (ix2 k n)) (fun n => b1 (ix1 n)) (fun n k => w2 (ix2 n k)) (fun k => b2 (ix1 k)) (pt x r) k := by
  pointwise [k0_pay16, k0_pay2, k0_pay3, k0_pay13]
  exact add_assoc _ _ _

/-- The confidence of a moved point of the first cloud. -/
theorem conf_i (b1 : FVec Ideal S64 .f32) (b2 : FVec Ideal S3 .f32) (d1 : FVec Ideal S64 .f32) (d2 : FVec Ideal S1 .f32)
    (x : FVec Ideal S1x1x1024x3 .f32) (w1 : FVec Ideal S3x64 .f32) (w2 : FVec Ideal S64x3 .f32)
    (c1 : FVec Ideal S3x64 .f32) (c2 : FVec Ideal S64x1 .f32) (r : Fin 1024) :
    k0_pay17 (F := Ideal) (k0_pay2 b1) (k0_pay3 b2) (k0_pay4 d1) (k0_pay5 d2) (k0_pay13 x) w1 w2 c1 c2 (ix2 r 0)
      = Spec.conf (fun k n => c1 (ix2 k n)) (fun n => d1 (ix1 n)) (fun n => c2 (ix2 n 0)) (d2 (ix1 0))
        (Spec.moved (fun k n => w1 (ix2 k n)) (fun n => b1 (ix1 n)) (fun n k => w2 (ix2 n k)) (fun k => b2 (ix1 k)) (pt x r)) := by
  have h : ∀ k, k0_pay16 (F := Ideal) (k0_pay2 b1) (k0_pay3 b2) (k0_pay13 x) w1 w2 (ix2 r k) = _ := moved_i b1 b2 x w1 w2 r
  pointwise [k0_pay17, k0_pay4, k0_pay5]
  simp only [h]
  rfl

/-- A point of the second cloud, moved; the kernel holds this cloud with its coordinates along the rows. -/
theorem moved_j (b1 : FVec Ideal S64 .f32) (b2 : FVec Ideal S3 .f32) (x : FVec Ideal S1x1x1024x3 .f32)
    (w1 : FVec Ideal S3x64 .f32) (w2 : FVec Ideal S64x3 .f32) (r : Fin 1024) (k : Fin 3) :
    k0_pay18 (F := Ideal) (k0_pay6 w1) (k0_pay7 w2) (k0_pay10 b1) (k0_pay11 b2) (k0_pay14 x) (ix2 k r)
      = Spec.moved (fun k n => w1 (ix2 k n)) (fun n => b1 (ix1 n)) (fun n k => w2 (ix2 n k)) (fun k => b2 (ix1 k)) (pt x r) k := by
  pointwise [k0_pay18, k0_pay15, k0_pay6, k0_pay7, k0_pay10, k0_pay11, k0_pay2, k0_pay3, k0_pay14]
  rw [add_assoc]
  simp only [mul_comm (w1 _), mul_comm (w2 _)]
  rfl

/-- The confidence of a moved point of the second cloud. -/
theorem conf_j (b1 : FVec Ideal S64 .f32) (b2 : FVec Ideal S3 .f32) (d1 : FVec Ideal S64 .f32) (d2 : FVec Ideal S1 .f32)
    (x : FVec Ideal S1x1x1024x3 .f32) (w1 : FVec Ideal S3x64 .f32) (w2 : FVec Ideal S64x3 .f32)
    (c1 : FVec Ideal S3x64 .f32) (c2 : FVec Ideal S64x1 .f32) (r : Fin 1024) :
    k0_pay19 (F := Ideal) (k0_pay5 d2) (k0_pay6 w1) (k0_pay7 w2) (k0_pay8 c1) (k0_pay9 c2) (k0_pay10 b1) (k0_pay11 b2) (k0_pay12 d1) (k0_pay14 x) (ix2 0 r)
      = Spec.conf (fun k n => c1 (ix2 k n)) (fun n => d1 (ix1 n)) (fun n => c2 (ix2 n 0)) (d2 (ix1 0))
        (Spec.moved (fun k n => w1 (ix2 k n)) (fun n => b1 (ix1 n)) (fun n k => w2 (ix2 n k)) (fun k => b2 (ix1 k)) (pt x r)) := by
  have h : ∀ k, k0_pay18 (F := Ideal) (k0_pay6 w1) (k0_pay7 w2) (k0_pay10 b1) (k0_pay11 b2) (k0_pay14 x) (ix2 k r) = _ := moved_j b1 b2 x w1 w2 r
  pointwise [k0_pay19, k0_pay5, k0_pay8, k0_pay9, k0_pay12, k0_pay4]
  simp only [h]
  simp only [mul_comm (c1 _), mul_comm (c2 _)]
  rfl

end Cert.KerPoint
-- ==== Proof.KerBlend.lean ====
/- The blend of the two distances of a row and the finished row, read at one element over the extended reals. -/
module

public import proofs.«01_k».proof.Proof.Spec
public import proofs.«01_k».proof.Proof.Gen.KernelIdeal.Skeleton
public import Idealize.ShloMosaic.Lib.Pointwise

@[expose] public section

set_option maxRecDepth 16384

noncomputable section

namespace Cert.KerPoint

open Cert.KernelIdeal Cert.KernelIdeal.Gen
open Idealize.ShloMosaic Idealize.ShloMosaic.TcCoe

/-- The word of +∞ denotes the greatest extended real. -/
theorem inf_eq : Ideal.ofBits .f32 0x7F800000#32 = (⊤ : EReal) := by simp [Ideal.ofBits, Ideal.ieee]

/-- The least blend of row `r` less its blend at column `l`, from the row's scaled coordinates and confidences. -/
theorem blend (v49 : FVec Ideal S1024x1 .f32) (v65 : FVec Ideal S1x1024 .f32) (v67 v69 : FVec Ideal S1024x3 .f32)
    (v71 v73 : FVec Ideal S3x1024 .f32) (v75 : FVec Ideal S1x1024 .f32) (v76 : FVec Ideal S1024x1024 .f32)
    (a p : Spec.Pt) (u : EReal) (b q : Fin 1024 → Spec.Pt) (v : Fin 1024 → EReal) (r : Fin 1024)
    (h49 : v49 (ix2 r 0) = u) (h65 : ∀ l : Fin 1024, v65 (ix2 0 l) = v l)
    (h67 : ∀ k : Fin 3, v67 (ix2 r k) = a k * Spec.scale) (h69 : ∀ k : Fin 3, v69 (ix2 r k) = p k * Spec.scale)
    (h71 : ∀ (k : Fin 3) (l : Fin 1024), v71 (ix2 k l) = q l k * Spec.scale)
    (h73 : ∀ (k : Fin 3) (l : Fin 1024), v73 (ix2 k l) = b l k * Spec.scale)
    (h75 : ∀ l : Fin 1024, v75 (ix2 0 l) = q l 0 * Spec.scale) (h76 : ∀ l : Fin 1024, v76 (ix2 r l) = a 0 * Spec.scale)
    (l : Fin 1024) :
    k0_pay26 (F := Ideal) v49 v65 v67 v69 v71 v73 v75 v76 (ix2 r l)
      = Finset.univ.fold min ⊤ (fun k => Spec.kerBlend a p u (b k) (q k) (v k)) - Spec.kerBlend a p u (b l) (q l) (v l) := by
  pointwise [k0_pay26]
  simp only [h49, h65, h67, h69, h71, h73, h75, h76, inf_eq]
  rfl

/-- The finished row. -/
theorem finish (x : FVec Ideal S1024x1024 .f32) (r l : Fin 1024) :
    k0_pay27 (F := Ideal) x (ix4 0 0 r l) = Ideal.exp2 (x (ix2 r l)) * Ideal.div 1 (∑ k : Fin 1024, Ideal.exp2 (x (ix2 r k))) := by
  pointwise [k0_pay27]
  rfl

end Cert.KerPoint
-- ==== Proof.KerPair.lean ====
/- The three stores of the kernel's body are one function of the weights and of the two views each of them compares,
   and that function's value at an element is the kernel's form of a row of the soft assignment. -/
module

public import proofs.«01_k».proof.Proof.KerPoint
public import proofs.«01_k».proof.Proof.KerBlend

@[expose] public section

set_option maxRecDepth 16384

noncomputable section

namespace Cert.KerPoint

open Cert.KernelIdeal Cert.KernelIdeal.Gen
open Idealize.ShloMosaic Idealize.ShloMosaic.TcCoe

section
variable {F : FTy → Type} [FloatOps F] [Named F]
variable (w1 : Vec F S3x64 .f32) (b1 : Vec F S64 .f32) (w2 : Vec F S64x3 .f32) (b2 : Vec F S3 .f32)
  (c1 : Vec F S3x64 .f32) (d1 : Vec F S64 .f32) (c2 : Vec F S64x1 .f32) (d2 : Vec F S1 .f32)
  (xi xj : Vec F S1x1x1024x3 .f32)

/-- What the body stores for one pair of views, from the weights and the two views. -/
def pair : FVec F S1x1x1024x1024 .f32 :=
  k0_pay27 (k0_pay26
    (k0_pay17 (k0_pay2 b1) (k0_pay3 b2) (k0_pay4 d1) (k0_pay5 d2) (k0_pay13 xi) w1 w2 c1 c2)
    (k0_pay19 (k0_pay5 d2) (k0_pay6 w1) (k0_pay7 w2) (k0_pay8 c1) (k0_pay9 c2) (k0_pay10 b1) (k0_pay11 b2) (k0_pay12 d1) (k0_pay14 xj))
    (k0_pay20 (k0_pay2 b1) (k0_pay3 b2) (k0_pay13 xi) w1 w2)
    (k0_pay21 (k0_pay13 xi))
    (k0_pay22 (k0_pay14 xj))
    (k0_pay23 (k0_pay6 w1) (k0_pay7 w2) (k0_pay10 b1) (k0_pay11 b2) (k0_pay14 xj))
    (k0_pay24 (k0_pay14 xj))
    (k0_pay25 (k0_pay2 b1) (k0_pay3 b2) (k0_pay13 xi) w1 w2))

/-- The first store of the body is this function. -/
theorem first : k0_pay27 (k0_pay26
    (k0_pay17 (k0_pay2 b1) (k0_pay3 b2) (k0_pay4 d1) (k0_pay5 d2) (k0_pay13 xi) w1 w2 c1 c2)
    (k0_pay19 (k0_pay5 d2) (k0_pay6 w1) (k0_pay7 w2) (k0_pay8 c1) (k0_pay9 c2) (k0_pay10 b1) (k0_pay11 b2) (k0_pay12 d1) (k0_pay14 xj))
    (k0_pay20 (k0_pay2 b1) (k0_pay3 b2) (k0_pay13 xi) w1 w2)
    (k0_pay21 (k0_pay13 xi))
    (k0_pay22 (k0_pay14 xj))
    (k0_pay23 (k0_pay6 w1) (k0_pay7 w2) (k0_pay10 b1) (k0_pay11 b2) (k0_pay14 xj))
    (k0_pay24 (k0_pay14 xj))
    (k0_pay25 (k0_pay2 b1) (k0_pay3 b2) (k0_pay13 xi) w1 w2))
    = pair w1 b1 w2 b2 c1 d1 c2 d2 xi xj := rfl

/-- The second store of the body is the same function. -/
theorem second : k0_pay41 (k0_pay40
    (k0_pay31 (k0_pay4 d1) (k0_pay5 d2) c1 c2 (k0_pay30 (k0_pay2 b1) (k0_pay3 b2) xi w1 w2))
    (k0_pay33 (k0_pay5 d2) (k0_pay6 w1) (k0_pay7 w2) (k0_pay8 c1) (k0_pay9 c2) (k0_pay10 b1) (k0_pay11 b2) (k0_pay12 d1) (k0_pay29 xj))
    (k0_pay35 (k0_pay28 xi))
    (k0_pay37 (k0_pay6 w1) (k0_pay7 w2) (k0_pay10 b1) (k0_pay11 b2) (k0_pay29 xj))
    (k0_pay38 (k0_pay29 xj) (k0_pay30 (k0_pay2 b1) (k0_pay3 b2) xi w1 w2))
    (k0_pay39 (k0_pay29 xj) (k0_pay30 (k0_pay2 b1) (k0_pay3 b2) xi w1 w2)))
    = pair w1 b1 w2 b2 c1 d1 c2 d2 xi xj := rfl

/-- The third store of the body is the same function. -/
theorem third : k0_pay1
    (k0_pay45 (k0_pay2 b1) (k0_pay3 b2) (k0_pay4 d1) (k0_pay5 d2) xi w1 w2 c1 c2)
    (k0_pay48 (k0_pay5 d2) (k0_pay7 w2) (k0_pay8 c1) (k0_pay9 c2) (k0_pay11 b2) (k0_pay12 d1) (k0_pay43 xj) (k0_pay46 (k0_pay6 w1) (k0_pay10 b1) xj))
    (k0_pay49 (k0_pay42 xi))
    (k0_pay50 (k0_pay7 w2) (k0_pay11 b2) (k0_pay43 xj) (k0_pay46 (k0_pay6 w1) (k0_pay10 b1) xj))
    (k0_pay51 (k0_pay43 xj) (k0_pay44 (k0_pay2 b1) (k0_pay3 b2) xi w1 w2))
    (k0_pay52 (k0_pay7 w2) (k0_pay11 b2) (k0_pay42 xi) (k0_pay43 xj) (k0_pay46 (k0_pay6 w1) (k0_pay10 b1) xj))
    (k0_pay53 (k0_pay7 w2) (k0_pay11 b2) (k0_pay43 xj) (k0_pay46 (k0_pay6 w1) (k0_pay10 b1) xj))
    (k0_pay54 (k0_pay42 xi))
    = pair w1 b1 w2 b2 c1 d1 c2 d2 xi xj := rfl

end

variable (w1 : FVec Ideal S3x64 .f32) (b1 : FVec Ideal S64 .f32) (w2 : FVec Ideal S64x3 .f32) (b2 : FVec Ideal S3 .f32)
  (c1 : FVec Ideal S3x64 .f32) (d1 : FVec Ideal S64 .f32) (c2 : FVec Ideal S64x1 .f32) (d2 : FVec Ideal S1 .f32)

/-- A point moved by the flow network of the weight arrays. -/
abbrev mv (p : Spec.Pt) : Spec.Pt :=
  Spec.moved (fun k n => w1 (ix2 k n)) (fun n => b1 (ix1 n)) (fun n k => w2 (ix2 n k)) (fun k => b2 (ix1 k)) p

/-- A moved point's confidence by the confidence network of the weight arrays. -/
abbrev cf (a : Spec.Pt) : EReal :=
  Spec.conf (fun k n => c1 (ix2 k n)) (fun n => d1 (ix1 n)) (fun n => c2 (ix2 n 0)) (d2 (ix1 0)) a

/-- One element of what the body stores for a pair of views. -/
theorem pair_apply (xi xj : FVec Ideal S1x1x1024x3 .f32) (r l : Fin 1024) :
    pair (F := Ideal) w1 b1 w2 b2 c1 d1 c2 d2 xi xj (ix4 0 0 r l)
      = Spec.kerRow (fun k => Spec.kerBlend (mv w1 b1 w2 b2 (pt xi r)) (pt xi r) (cf c1 d1 c2 d2 (mv w1 b1 w2 b2 (pt xi r)))
          (mv w1 b1 w2 b2 (pt xj k)) (pt xj k) (cf c1 d1 c2 d2 (mv w1 b1 w2 b2 (pt xj k)))) l := by
  have hi : ∀ k : Fin 3, k0_pay16 (F := Ideal) (k0_pay2 b1) (k0_pay3 b2) (k0_pay13 xi) w1 w2 (ix2 r k) = mv w1 b1 w2 b2 (pt xi r) k :=
    moved_i b1 b2 xi w1 w2 r
  have hj : ∀ (k : Fin 3) (l : Fin 1024), k0_pay18 (F := Ideal) (k0_pay6 w1) (k0_pay7 w2) (k0_pay10 b1) (k0_pay11 b2) (k0_pay14 xj) (ix2 k l)
      = mv w1 b1 w2 b2 (pt xj l) k := fun k l => moved_j b1 b2 xj w1 w2 l k
  have hc : (Named.named κ "log2e_over_t" 0x431044FE#32 : Ideal .f32) = Spec.scale := rfl
  unfold pair
  rw [finish]
  unfold Spec.kerRow
  have h := blend _ _ _ _ _ _ _ _ (mv w1 b1 w2 b2 (pt xi r)) (pt xi r) (cf c1 d1 c2 d2 (mv w1 b1 w2 b2 (pt xi r)))
    (fun k => mv w1 b1 w2 b2 (pt xj k)) (fun k => pt xj k) (fun k => cf c1 d1 c2 d2 (mv w1 b1 w2 b2 (pt xj k))) r
    (conf_i b1 b2 d1 d2 xi w1 w2 c1 c2 r) (fun l => conf_j b1 b2 d1 d2 xj w1 w2 c1 c2 l)
    (show ∀ k : Fin 3, k0_pay20 (F := Ideal) (k0_pay2 b1) (k0_pay3 b2) (k0_pay13 xi) w1 w2 (ix2 r k) = _ from fun k => by
      pointwise [k0_pay20]; rw [hi, hc])
    (show ∀ k : Fin 3, k0_pay21 (F := Ideal) (k0_pay13 xi) (ix2 r k) = _ from fun k => by
      pointwise [k0_pay21, k0_pay13]; rw [hc])
    (show ∀ (k : Fin 3) (l : Fin 1024), k0_pay22 (F := Ideal) (k0_pay14 xj) (ix2 k l) = _ from fun k l => by
      pointwise [k0_pay22, k0_pay15, k0_pay14]; rw [hc])
    (show ∀ (k : Fin 3) (l : Fin 1024), k0_pay23 (F := Ideal) (k0_pay6 w1) (k0_pay7 w2) (k0_pay10 b1) (k0_pay11 b2) (k0_pay14 xj) (ix2 k l) = _ from fun k l => by
      pointwise [k0_pay23]; rw [hj, hc])
    (show ∀ l : Fin 1024, k0_pay24 (F := Ideal) (k0_pay14 xj) (ix2 0 l) = _ from fun l => by
      pointwise [k0_pay24, k0_pay22, k0_pay15, k0_pay14]; rw [hc])
    (show ∀ l : Fin 1024, k0_pay25 (F := Ideal) (k0_pay2 b1) (k0_pay3 b2) (k0_pay13 xi) w1 w2 (ix2 r l) = _ from fun l => by
      pointwise [k0_pay25, k0_pay20]; rw [hi, hc])
  simp only [h]

end Cert.KerPoint
-- ==== Proof.KerBlock.lean ====
/- What one grid point leaves in the output block: three rows of the kernel's soft assignment, one per pair of views,
   the views being those that the table names. -/
module

public import proofs.«01_k».proof.Proof.KerPair
public import proofs.«01_k».proof.Proof.Table
public import Idealize.ShloMosaic.Lib.Pipeline.ValueKit

@[expose] public section

set_option maxRecDepth 16384

noncomputable section

namespace Cert.KerBlock

open Cert.KernelIdeal Cert.KernelIdeal.Gen Cert.KerPoint
open Idealize.ShloMosaic Idealize.ShloMosaic.TcCoe

section
variable (x0 : FVec Ideal S1x4x1024x3 .f32) (x1 : FVec Ideal S3x64 .f32) (x2 : FVec Ideal S64 .f32) (x3 : FVec Ideal S64x3 .f32) (x4 : FVec Ideal S3 .f32) (x5 : FVec Ideal S3x64 .f32) (x6 : FVec Ideal S64 .f32) (x7 : FVec Ideal S64x1 .f32) (x8 : FVec Ideal S1 .f32)

/-- Row `r` of view `v` of the point cloud. -/
abbrev vp (v : Fin 4) (r : Fin 1024) : Spec.Pt := fun k => x0 (ix4 0 v r k)

/-- The kernel's soft assignment of point `r` of view `i` to the points of view `j`, read at the point `l`. -/
def row (i j : Fin 4) (r l : Fin 1024) : EReal :=
  Spec.kerRow (fun k => Spec.kerBlend (mv x1 x2 x3 x4 (vp x0 i r)) (vp x0 i r) (cf x5 x6 x7 x8 (mv x1 x2 x3 x4 (vp x0 i r)))
    (mv x1 x2 x3 x4 (vp x0 j k)) (vp x0 j k) (cf x5 x6 x7 x8 (mv x1 x2 x3 x4 (vp x0 j k)))) l

/-- A view loaded at its offset, row by row. -/
theorem pt_ld (v : Fin 4) (o : Fin 4 → ℕ) (ho : o = ![0, (v : ℕ), 0, 0]) (hb : ∀ a, o a + S1x1x1024x3.size a ≤ S1x4x1024x3.size a)
    (r : Fin 1024) : pt (View.ld (Val := Elt Ideal) (e' := .f32) x0 (Rect.unit (s := S1x4x1024x3) o S1x1x1024x3.size hb)) r = vp x0 v r := by
  subst ho
  funext k
  show x0 _ = x0 _
  refine congrArg x0 (funext fun a => Fin.ext ?_)
  fin_cases a
  · show 0 + 1 * 0 = 0; rfl
  · show (v : ℕ) + 1 * 0 = v; omega
  · show 0 + 1 * (r : ℕ) = r; omega
  · show 0 + 1 * (k : ℕ) = k; omega

/-- What the body stores for a pair of views that are rows of the point cloud, element by element. -/
theorem pair_row (i j : Fin 4) (xi xj : FVec Ideal S1x1x1024x3 .f32) (hi : ∀ r, pt xi r = vp x0 i r) (hj : ∀ r, pt xj r = vp x0 j r)
    (x : S1x1x1024x1024.Idx) :
    pair (F := Ideal) x1 x2 x3 x4 x5 x6 x7 x8 xi xj x = row x0 x1 x2 x3 x4 x5 x6 x7 x8 i j (x 2) (x 3) := by
  have hx : x = (ix4 0 0 (x 2) (x 3) : S1x1x1024x1024.Idx) := by
    rw [eq_ix4 x]; congr 1 <;> exact Subsingleton.elim (α := Fin 1) _ _
  have key : ∀ r l : Fin 1024, pair (F := Ideal) x1 x2 x3 x4 x5 x6 x7 x8 xi xj (ix4 0 0 r l) = row x0 x1 x2 x3 x4 x5 x6 x7 x8 i j r l := by
    intro r l
    rw [pair_apply]
    unfold row
    simp only [hi, hj]
  exact (congrArg _ hx).trans (key (x 2) (x 3))

/-- What the body stores for a pair of views loaded at their offsets, element by element. -/
theorem pair_ld (i j : Fin 4) (o o' : Fin 4 → ℕ) (ho : o = ![0, (i : ℕ), 0, 0]) (ho' : o' = ![0, (j : ℕ), 0, 0])
    (hb : ∀ a, o a + S1x1x1024x3.size a ≤ S1x4x1024x3.size a) (hb' : ∀ a, o' a + S1x1x1024x3.size a ≤ S1x4x1024x3.size a)
    (x : S1x1x1024x1024.Idx) :
    pair (F := Ideal) x1 x2 x3 x4 x5 x6 x7 x8 (View.ld x0 (Rect.unit (s := S1x4x1024x3) o S1x1x1024x3.size hb))
      (View.ld x0 (Rect.unit (s := S1x4x1024x3) o' S1x1x1024x3.size hb')) x = row x0 x1 x2 x3 x4 x5 x6 x7 x8 i j (x 2) (x 3) :=
  pair_row x0 x1 x2 x3 x4 x5 x6 x7 x8 i j _ _ (pt_ld x0 i o ho hb) (pt_ld x0 j o' ho' hb') x

/-- Equal places and equal points give equal elements. -/
theorem row_congr (vi vj : Fin 3 → Fin 4) {k q : Fin 3} {a b r l : Fin 1024} (h : q = k) (ha : a = r) (hb : b = l) :
    row x0 x1 x2 x3 x4 x5 x6 x7 x8 (vi k) (vj k) a b = row x0 x1 x2 x3 x4 x5 x6 x7 x8 (vi q) (vj q) r l := by
  subst h ha hb; rfl

/-- The block that the body leaves, when the table's words name the views `vi` and `vj` of the three pairs. -/
theorem out_apply (c : Dev nD) (i : grid0.Coords) (a2 : Memref sig .tc .vmem S1x4x1024x3 .f32) (h2 : a2.IsWhole) (a3 : Memref sig .tc .vmem S3x64 .f32) (h3 : a3.IsWhole) (a4 : Memref sig .tc .vmem S64 .f32) (h4 : a4.IsWhole) (a5 : Memref sig .tc .vmem S64x3 .f32) (h5 : a5.IsWhole) (a6 : Memref sig .tc .vmem S3 .f32) (h6 : a6.IsWhole) (a7 : Memref sig .tc .vmem S3x64 .f32) (h7 : a7.IsWhole) (a8 : Memref sig .tc .vmem S64 .f32) (h8 : a8.IsWhole) (a9 : Memref sig .tc .vmem S64x1 .f32) (h9 : a9.IsWhole) (a10 : Memref sig .tc .vmem S1 .f32) (h10 : a10.IsWhole) (a11 : Memref sig .tc .vmem S3x1x1024x1024 .f32) (h11 : a11.IsWhole)
    (tb : TbBuf0 (F := Ideal) c tbM0_0)
    (w1 : k0_chk1 (tbM0_0.view.readAt (Elt Ideal) (Rect.unit (s := S2x6) (k0_off1 i) S1x1.size (k0_off1_inb i)).toLoadRect tb (Shape.Idx.first (numel1_S1x1.symm ▸ Nat.one_pos))))
    (w2 : k0_chk2 (tbM0_0.view.readAt (Elt Ideal) (Rect.unit (s := S2x6) (k0_off3 i) S1x1.size (k0_off3_inb i)).toLoadRect tb (Shape.Idx.first (numel1_S1x1.symm ▸ Nat.one_pos))))
    (w3 : k0_chk3 (tbM0_0.view.readAt (Elt Ideal) (Rect.unit (s := S2x6) (k0_off5 i) S1x1.size (k0_off5_inb i)).toLoadRect tb (Shape.Idx.first (numel1_S1x1.symm ▸ Nat.one_pos))))
    (w4 : k0_chk4 (tbM0_0.view.readAt (Elt Ideal) (Rect.unit (s := S2x6) (k0_off7 i) S1x1.size (k0_off7_inb i)).toLoadRect tb (Shape.Idx.first (numel1_S1x1.symm ▸ Nat.one_pos))))
    (w5 : k0_chk5 (tbM0_0.view.readAt (Elt Ideal) (Rect.unit (s := S2x6) (k0_off9 i) S1x1.size (k0_off9_inb i)).toLoadRect tb (Shape.Idx.first (numel1_S1x1.symm ▸ Nat.one_pos))))
    (w6 : k0_chk6 (tbM0_0.view.readAt (Elt Ideal) (Rect.unit (s := S2x6) (k0_off11 i) S1x1.size (k0_off11_inb i)).toLoadRect tb (Shape.Idx.first (numel1_S1x1.symm ▸ Nat.one_pos))))
    (vi vj : Fin 3 → Fin 4)
    (v1 : k0_off2 (tbM0_0.view.readAt (Elt Ideal) (Rect.unit (s := S2x6) (k0_off1 i) S1x1.size (k0_off1_inb i)).toLoadRect tb (Shape.Idx.first (numel1_S1x1.symm ▸ Nat.one_pos))) = ![0, (vi 0 : ℕ), 0, 0])
    (v2 : k0_off4 (tbM0_0.view.readAt (Elt Ideal) (Rect.unit (s := S2x6) (k0_off3 i) S1x1.size (k0_off3_inb i)).toLoadRect tb (Shape.Idx.first (numel1_S1x1.symm ▸ Nat.one_pos))) = ![0, (vj 0 : ℕ), 0, 0])
    (v3 : k0_off6 (tbM0_0.view.readAt (Elt Ideal) (Rect.unit (s := S2x6) (k0_off5 i) S1x1.size (k0_off5_inb i)).toLoadRect tb (Shape.Idx.first (numel1_S1x1.symm ▸ Nat.one_pos))) = ![0, (vi 1 : ℕ), 0, 0])
    (v4 : k0_off8 (tbM0_0.view.readAt (Elt Ideal) (Rect.unit (s := S2x6) (k0_off7 i) S1x1.size (k0_off7_inb i)).toLoadRect tb (Shape.Idx.first (numel1_S1x1.symm ▸ Nat.one_pos))) = ![0, (vj 1 : ℕ), 0, 0])
    (v5 : k0_off10 (tbM0_0.view.readAt (Elt Ideal) (Rect.unit (s := S2x6) (k0_off9 i) S1x1.size (k0_off9_inb i)).toLoadRect tb (Shape.Idx.first (numel1_S1x1.symm ▸ Nat.one_pos))) = ![0, (vi 2 : ℕ), 0, 0])
    (v6 : k0_off12 (tbM0_0.view.readAt (Elt Ideal) (Rect.unit (s := S2x6) (k0_off11 i) S1x1.size (k0_off11_inb i)).toLoadRect tb (Shape.Idx.first (numel1_S1x1.symm ▸ Nat.one_pos))) = ![0, (vj 2 : ℕ), 0, 0])
    (y : S3x1x1024x1024.Idx) :
    out0_A_9 (F := Ideal) c i a2 h2 a3 h3 a4 h4 a5 h5 a6 h6 a7 h7 a8 h8 a9 h9 a10 h10 a11 h11
      x0 x1 x2 x3 x4 x5 x6 x7 x8 tb w1 w2 w3 w4 w5 w6 y
      = row x0 x1 x2 x3 x4 x5 x6 x7 x8 (vi (y 0)) (vj (y 0)) (y 2) (y 3) := by
  frame_out
  canon_tiles x e
  case piece0 =>
    refine Eq.trans (congrFun (third (F := Ideal) x1 x2 x3 x4 x5 x6 x7 x8 _ _) x) ((pair_ld x0 x1 x2 x3 x4 x5 x6 x7 x8 (vi 2) (vj 2) _ _ v5 v6 _ _ x).trans ?_)
    exact row_congr x0 x1 x2 x3 x4 x5 x6 x7 x8 vi vj (Fin.ext (show (y 0 : ℕ) = 2 by omega)) (Fin.ext e2.symm) (Fin.ext e3.symm)
  case piece1 =>
    refine Eq.trans (congrFun (second (F := Ideal) x1 x2 x3 x4 x5 x6 x7 x8 _ _) x) ((pair_ld x0 x1 x2 x3 x4 x5 x6 x7 x8 (vi 1) (vj 1) _ _ v3 v4 _ _ x).trans ?_)
    exact row_congr x0 x1 x2 x3 x4 x5 x6 x7 x8 vi vj (Fin.ext (show (y 0 : ℕ) = 1 by omega)) (Fin.ext e2.symm) (Fin.ext e3.symm)
  case piece2 =>
    refine Eq.trans (congrFun (first (F := Ideal) x1 x2 x3 x4 x5 x6 x7 x8 _ _) x) ((pair_ld x0 x1 x2 x3 x4 x5 x6 x7 x8 (vi 0) (vj 0) _ _ v1 v2 _ _ x).trans ?_)
    exact row_congr x0 x1 x2 x3 x4 x5 x6 x7 x8 vi vj (Fin.ext (show (y 0 : ℕ) = 0 by omega)) (Fin.ext e2.symm) (Fin.ext e3.symm)

end

variable (m : (ℓ : Loc nD τ sig) → Buf (Elt Ideal) ℓ)

/-- The pair that a grid point stores at place `q` of its block. -/
def out (t : Fin grid0.N) (q : Fin 3) : Fin 6 := ⟨3 * t.val + q.val, by have := t.isLt; have : grid0.N = 2 := rfl; omega⟩

/-- Where the first view that the body loads at a grid point begins. -/
theorem off1 : ∀ t : Fin grid0.N, k0_off2 (tbM0_0.view.readAt (Elt Ideal) (Rect.unit (s := S2x6) (k0_off1 (grid0.coords t)) S1x1.size (k0_off1_inb (grid0.coords t))).toLoadRect (tbl m 0) (Shape.Idx.first (numel1_S1x1.symm ▸ Nat.one_pos))) = ![0, (Spec.left (out t 0) : ℕ), 0, 0] :=
  (by decide +kernel : ∀ t : Fin grid0.N, k0_off2 (lit0 (S2x6.rowMajor ((Rect.unit (s := S2x6) (k0_off1 (grid0.coords t)) S1x1.size (k0_off1_inb (grid0.coords t))).toLoadRect.idx (Shape.Idx.first (numel1_S1x1.symm ▸ Nat.one_pos))))) = ![0, (Spec.left (out t 0) : ℕ), 0, 0])

/-- Where the second view that the body loads at a grid point begins. -/
theorem off2 : ∀ t : Fin grid0.N, k0_off4 (tbM0_0.view.readAt (Elt Ideal) (Rect.unit (s := S2x6) (k0_off3 (grid0.coords t)) S1x1.size (k0_off3_inb (grid0.coords t))).toLoadRect (tbl m 0) (Shape.Idx.first (numel1_S1x1.symm ▸ Nat.one_pos))) = ![0, (Spec.right (out t 0) : ℕ), 0, 0] :=
  (by decide +kernel : ∀ t : Fin grid0.N, k0_off4 (lit0 (S2x6.rowMajor ((Rect.unit (s := S2x6) (k0_off3 (grid0.coords t)) S1x1.size (k0_off3_inb (grid0.coords t))).toLoadRect.idx (Shape.Idx.first (numel1_S1x1.symm ▸ Nat.one_pos))))) = ![0, (Spec.right (out t 0) : ℕ), 0, 0])

/-- Where the third view that the body loads at a grid point begins. -/
theorem off3 : ∀ t : Fin grid0.N, k0_off6 (tbM0_0.view.readAt (Elt Ideal) (Rect.unit (s := S2x6) (k0_off5 (grid0.coords t)) S1x1.size (k0_off5_inb (grid0.coords t))).toLoadRect (tbl m 0) (Shape.Idx.first (numel1_S1x1.symm ▸ Nat.one_pos))) = ![0, (Spec.left (out t 1) : ℕ), 0, 0] :=
  (by decide +kernel : ∀ t : Fin grid0.N, k0_off6 (lit0 (S2x6.rowMajor ((Rect.unit (s := S2x6) (k0_off5 (grid0.coords t)) S1x1.size (k0_off5_inb (grid0.coords t))).toLoadRect.idx (Shape.Idx.first (numel1_S1x1.symm ▸ Nat.one_pos))))) = ![0, (Spec.left (out t 1) : ℕ), 0, 0])

/-- Where the fourth view that the body loads at a grid point begins. -/
theorem off4 : ∀ t : Fin grid0.N, k0_off8 (tbM0_0.view.readAt (Elt Ideal) (Rect.unit (s := S2x6) (k0_off7 (grid0.coords t)) S1x1.size (k0_off7_inb (grid0.coords t))).toLoadRect (tbl m 0) (Shape.Idx.first (numel1_S1x1.symm ▸ Nat.one_pos))) = ![0, (Spec.right (out t 1) : ℕ), 0, 0] :=
  (by decide +kernel : ∀ t : Fin grid0.N, k0_off8 (lit0 (S2x6.rowMajor ((Rect.unit (s := S2x6) (k0_off7 (grid0.coords t)) S1x1.size (k0_off7_inb (grid0.coords t))).toLoadRect.idx (Shape.Idx.first (numel1_S1x1.symm ▸ Nat.one_pos))))) = ![0, (Spec.right (out t 1) : ℕ), 0, 0])

/-- Where the fifth view that the body loads at a grid point begins. -/
theorem off5 : ∀ t : Fin grid0.N, k0_off10 (tbM0_0.view.readAt (Elt Ideal) (Rect.unit (s := S2x6) (k0_off9 (grid0.coords t)) S1x1.size (k0_off9_inb (grid0.coords t))).toLoadRect (tbl m 0) (Shape.Idx.first (numel1_S1x1.symm ▸ Nat.one_pos))) = ![0, (Spec.left (out t 2) : ℕ), 0, 0] :=
  (by decide +kernel : ∀ t : Fin grid0.N, k0_off10 (lit0 (S2x6.rowMajor ((Rect.unit (s := S2x6) (k0_off9 (grid0.coords t)) S1x1.size (k0_off9_inb (grid0.coords t))).toLoadRect.idx (Shape.Idx.first (numel1_S1x1.symm ▸ Nat.one_pos))))) = ![0, (Spec.left (out t 2) : ℕ), 0, 0])

/-- Where the sixth view that the body loads at a grid point begins. -/
theorem off6 : ∀ t : Fin grid0.N, k0_off12 (tbM0_0.view.readAt (Elt Ideal) (Rect.unit (s := S2x6) (k0_off11 (grid0.coords t)) S1x1.size (k0_off11_inb (grid0.coords t))).toLoadRect (tbl m 0) (Shape.Idx.first (numel1_S1x1.symm ▸ Nat.one_pos))) = ![0, (Spec.right (out t 2) : ℕ), 0, 0] :=
  (by decide +kernel : ∀ t : Fin grid0.N, k0_off12 (lit0 (S2x6.rowMajor ((Rect.unit (s := S2x6) (k0_off11 (grid0.coords t)) S1x1.size (k0_off11_inb (grid0.coords t))).toLoadRect.idx (Shape.Idx.first (numel1_S1x1.symm ▸ Nat.one_pos))))) = ![0, (Spec.right (out t 2) : ℕ), 0, 0])

end Cert.KerBlock
-- ==== Proof.KerArray.lean ====
/- What the kernel's result array ends holding: for each of the six pairs of views, the kernel's form of the soft
   assignment of the first view's points to the second's. -/
module

public import proofs.«01_k».proof.Proof.KerBlock

@[expose] public section

set_option maxRecDepth 16384

noncomputable section

namespace Cert.KerArray

open Cert.KernelIdeal Cert.KernelIdeal.Gen Cert.KerBlock
open Idealize.ShloMosaic Idealize.ShloMosaic.TcCoe

/-- The result array of the kernel, from the point cloud and the weights. -/
def result (x0 : FVec Ideal S1x4x1024x3 .f32) (x1 : FVec Ideal S3x64 .f32) (x2 : FVec Ideal S64 .f32) (x3 : FVec Ideal S64x3 .f32)
    (x4 : FVec Ideal S3 .f32) (x5 : FVec Ideal S3x64 .f32) (x6 : FVec Ideal S64 .f32) (x7 : FVec Ideal S64x1 .f32) (x8 : FVec Ideal S1 .f32) :
    FVec Ideal S6x1x1024x1024 .f32 :=
  fun j => row x0 x1 x2 x3 x4 x5 x6 x7 x8 (Spec.left (j 0)) (Spec.right (j 0)) (j 2) (j 3)

/-- The result array at an index of given coordinates. -/
theorem result_at (x0 : FVec Ideal S1x4x1024x3 .f32) (x1 : FVec Ideal S3x64 .f32) (x2 : FVec Ideal S64 .f32) (x3 : FVec Ideal S64x3 .f32)
    (x4 : FVec Ideal S3 .f32) (x5 : FVec Ideal S3x64 .f32) (x6 : FVec Ideal S64 .f32) (x7 : FVec Ideal S64x1 .f32) (x8 : FVec Ideal S1 .f32)
    (j : S6x1x1024x1024.Idx) (p : Fin 6) (r l : Fin 1024) (hp : (j 0 : Fin 6) = p) (hr : (j 2 : Fin 1024) = r) (hl : (j 3 : Fin 1024) = l) :
    result x0 x1 x2 x3 x4 x5 x6 x7 x8 j = row x0 x1 x2 x3 x4 x5 x6 x7 x8 (Spec.left p) (Spec.right p) r l := by
  subst hp hr hl; rfl

variable (m : (ℓ : Loc nD τ sig) → Buf (Elt Ideal) ℓ)

/-! Every input window is its whole array at every grid point. -/

theorem idx0 (hO : Ok m) : ∀ t : Fin (cfgM m hO).N, ((cfgM m hO).win 0).index t = ![0, 0, 0, 0] :=
  (by decide +kernel : ∀ t : Fin grid0.N, cc0_transform_0 (grid0.coords t) = ![0, 0, 0, 0])

theorem idx1 (hO : Ok m) : ∀ t : Fin (cfgM m hO).N, ((cfgM m hO).win 1).index t = ![0, 0] :=
  (by decide +kernel : ∀ t : Fin grid0.N, cc0_transform_1 (grid0.coords t) = ![0, 0])

theorem idx2 (hO : Ok m) : ∀ t : Fin (cfgM m hO).N, ((cfgM m hO).win 2).index t = ![0] :=
  (by decide +kernel : ∀ t : Fin grid0.N, cc0_transform_2 (grid0.coords t) = ![0])

theorem idx3 (hO : Ok m) : ∀ t : Fin (cfgM m hO).N, ((cfgM m hO).win 3).index t = ![0, 0] :=
  (by decide +kernel : ∀ t : Fin grid0.N, cc0_transform_3 (grid0.coords t) = ![0, 0])

theorem idx4 (hO : Ok m) : ∀ t : Fin (cfgM m hO).N, ((cfgM m hO).win 4).index t = ![0] :=
  (by decide +kernel : ∀ t : Fin grid0.N, cc0_transform_4 (grid0.coords t) = ![0])

theorem idx5 (hO : Ok m) : ∀ t : Fin (cfgM m hO).N, ((cfgM m hO).win 5).index t = ![0, 0] :=
  (by decide +kernel : ∀ t : Fin grid0.N, cc0_transform_5 (grid0.coords t) = ![0, 0])

theorem idx6 (hO : Ok m) : ∀ t : Fin (cfgM m hO).N, ((cfgM m hO).win 6).index t = ![0] :=
  (by decide +kernel : ∀ t : Fin grid0.N, cc0_transform_6 (grid0.coords t) = ![0])

theorem idx7 (hO : Ok m) : ∀ t : Fin (cfgM m hO).N, ((cfgM m hO).win 7).index t = ![0, 0] :=
  (by decide +kernel : ∀ t : Fin grid0.N, cc0_transform_7 (grid0.coords t) = ![0, 0])

theorem idx8 (hO : Ok m) : ∀ t : Fin (cfgM m hO).N, ((cfgM m hO).win 8).index t = ![0] :=
  (by decide +kernel : ∀ t : Fin grid0.N, cc0_transform_8 (grid0.coords t) = ![0])

theorem whole0 (hO : Ok m) (c : Dev nD) (t : Fin (cfgM m hO).N) : (iblk m hO c 0 t : FVec Ideal S1x4x1024x3 .f32) = m ((c : Thread nD τ).loc main_arg0) := by
  blk_ext! [iblk, V_main_arg0, idx0 m hO t]

theorem whole1 (hO : Ok m) (c : Dev nD) (t : Fin (cfgM m hO).N) : (iblk m hO c 1 t : FVec Ideal S3x64 .f32) = m ((c : Thread nD τ).loc main_arg1) := by
  blk_ext! [iblk, V_main_arg1, idx1 m hO t]

theorem whole2 (hO : Ok m) (c : Dev nD) (t : Fin (cfgM m hO).N) : (iblk m hO c 2 t : FVec Ideal S64 .f32) = m ((c : Thread nD τ).loc main_arg2) := by
  blk_ext! [iblk, V_main_arg2, idx2 m hO t]

theorem whole3 (hO : Ok m) (c : Dev nD) (t : Fin (cfgM m hO).N) : (iblk m hO c 3 t : FVec Ideal S64x3 .f32) = m ((c : Thread nD τ).loc main_arg3) := by
  blk_ext! [iblk, V_main_arg3, idx3 m hO t]

theorem whole4 (hO : Ok m) (c : Dev nD) (t : Fin (cfgM m hO).N) : (iblk m hO c 4 t : FVec Ideal S3 .f32) = m ((c : Thread nD τ).loc main_arg4) := by
  blk_ext! [iblk, V_main_arg4, idx4 m hO t]

theorem whole5 (hO : Ok m) (c : Dev nD) (t : Fin (cfgM m hO).N) : (iblk m hO c 5 t : FVec Ideal S3x64 .f32) = m ((c : Thread nD τ).loc main_arg5) := by
  blk_ext! [iblk, V_main_arg5, idx5 m hO t]

theorem whole6 (hO : Ok m) (c : Dev nD) (t : Fin (cfgM m hO).N) : (iblk m hO c 6 t : FVec Ideal S64 .f32) = m ((c : Thread nD τ).loc main_arg6) := by
  blk_ext! [iblk, V_main_arg6, idx6 m hO t]

theorem whole7 (hO : Ok m) (c : Dev nD) (t : Fin (cfgM m hO).N) : (iblk m hO c 7 t : FVec Ideal S64x1 .f32) = m ((c : Thread nD τ).loc main_arg7) := by
  blk_ext! [iblk, V_main_arg7, idx7 m hO t]

theorem whole8 (hO : Ok m) (c : Dev nD) (t : Fin (cfgM m hO).N) : (iblk m hO c 8 t : FVec Ideal S1 .f32) = m ((c : Thread nD τ).loc main_arg8) := by
  blk_ext! [iblk, V_main_arg8, idx8 m hO t]

/-- The output window's block moves along the pairs, three at a time. -/
theorem idx9 (hO : Ok m) : ∀ t : Fin (cfgM m hO).N, ((cfgM m hO).win 9).index t = ![t.val, 0, 0, 0] :=
  (by decide +kernel : ∀ t : Fin grid0.N, cc0_transform_9 (grid0.coords t) = ![t.val, 0, 0, 0])

/-- The blocks of the two grid points cover the result array. -/
theorem covers (hO : Ok m) : ((cfgM m hO).win 9).Covers := of_decide_eq_true (by sl_kernel_rfl)

/-- What the body leaves in the output block at a grid point. -/
theorem block (hO : Ok m) (hH : Hyps m hO) (c : Dev nD) (t : Fin (cfgM m hO).N) (y : S3x1x1024x1024.Idx) :
    outsAt0 m hO hH c t y
      = row (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (Spec.left (out t (y 0))) (Spec.right (out t (y 0))) (y 2) (y 3) := by
  unfold outsAt0
  refine (out_apply _ _ _ _ _ _ _ _ _ c (grid0.coords t) _ _ _ _ _ _ _ _ _ _ _ _ _ _ _ _ _ _ _ _ (tbl m 0) _ _ _ _ _ _
    (fun q => Spec.left (out t q)) (fun q => Spec.right (out t q))
    (off1 m t) (off2 m t) (off3 m t) (off4 m t) (off5 m t) (off6 m t) y).trans ?_
  rw [whole0, whole1, whole2, whole3, whole4, whole5, whole6, whole7, whole8]

/-- The result array at the end of the run. -/
theorem final (hO : Ok m) (hH : Hyps m hO) (c : Dev nD) :
    (dats m hO hH 0 c).arrAt 9 (cfgM m hO).N = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m hO hH 0 c).arrAt_eq_of_covers 9 _ (covers m hO) fun t hf y => ?_
  blk_simp
  rw [after0_9]
  refine (block m hO hH c t y).trans ?_
  refine (result_at _ _ _ _ _ _ _ _ _ _ _ _ _ (Fin.ext ?_) (Fin.ext ?_) (Fin.ext ?_)).symm
  · blk_simp [idx9 m hO t]
    exact congrArg (· + _) (Nat.mul_comm _ _)
  · blk_simp [idx9 m hO t]
  · blk_simp [idx9 m hO t]

end Cert.KerArray
-- ==== Proof.RefPoint.lean ====
/- What the reference does per point and per pair of points, as operations on arrays of any values, read at one element
   over the extended reals: the two stacks of views, the moved points, the confidences and the coordinate differences. -/
module

public import proofs.«01_k».proof.Proof.Spec
public import proofs.«01_k».proof.Proof.Gen.ReferenceIdeal.Run
public import Idealize.ShloMosaic.Lib.Pointwise

@[expose] public section

set_option maxRecDepth 16384

noncomputable section

namespace Cert.RefPoint

open Cert.ReferenceIdeal Cert.ReferenceIdeal.Gen
open Idealize.ShloMosaic Idealize.ShloMosaic.TcCoe

variable (x0 : FVec Ideal S1x4x1024x3 .f32) (x1 : FVec Ideal S3x64 .f32) (x2 : FVec Ideal S64 .f32) (x3 : FVec Ideal S64x3 .f32)
  (x4 : FVec Ideal S3 .f32) (x5 : FVec Ideal S3x64 .f32) (x6 : FVec Ideal S64 .f32) (x7 : FVec Ideal S64x1 .f32) (x8 : FVec Ideal S1 .f32)

/-- Row `r` of view `v` of the point cloud. -/
abbrev vp (v : Fin 4) (r : Fin 1024) : Spec.Pt := fun k => x0 (ix4 0 v r k)

/-- A point moved by the flow network. -/
abbrev mv (p : Spec.Pt) : Spec.Pt :=
  Spec.moved (fun k n => x1 (ix2 k n)) (fun n => x2 (ix1 n)) (fun n k => x3 (ix2 n k)) (fun k => x4 (ix1 k)) p

/-- A moved point's confidence. -/
abbrev cf (a : Spec.Pt) : EReal :=
  Spec.conf (fun k n => x5 (ix2 k n)) (fun n => x6 (ix1 n)) (fun n => x7 (ix2 n 0)) (x8 (ix1 0)) a

/-- A view of the point cloud, given by the corner it starts at. -/
abbrev viewOf (o : Fin 4 → ℕ) (h : S1x4x1024x3.Slices o S1x1x1024x3) : FVec Ideal S1x1024x3 .f32 :=
  shapeCast S1x1024x3 (extractStridedSlice S1x1x1024x3 o x0 h) shapeCasts_S1x1x1024x3_S1x1024x3

/-- Six views on top of each other. -/
abbrev stackOf (a b c d e f : FVec Ideal S1x1024x3 .f32) : FVec Ideal S6x1024x3 .f32 :=
  concatenate S6x1024x3 0 [⟨S1x1024x3, a⟩, ⟨S1x1024x3, b⟩, ⟨S1x1024x3, c⟩, ⟨S1x1024x3, d⟩, ⟨S1x1024x3, e⟩, ⟨S1x1024x3, f⟩]
    concatenates_S1x1024x3_S1x1024x3_S1x1024x3_S1x1024x3_S1x1024x3_S1x1024x3_S6x1024x3_d0

/-- The stack of first views. -/
abbrev firsts : FVec Ideal S6x1024x3 .f32 :=
  stackOf (viewOf x0 _ slices_S1x4x1024x3_S1x1x1024x3_0_0_0_0) (viewOf x0 _ slices_S1x4x1024x3_S1x1x1024x3_0_0_0_0) (viewOf x0 _ slices_S1x4x1024x3_S1x1x1024x3_0_0_0_0)
    (viewOf x0 _ slices_S1x4x1024x3_S1x1x1024x3_0_1_0_0) (viewOf x0 _ slices_S1x4x1024x3_S1x1x1024x3_0_1_0_0) (viewOf x0 _ slices_S1x4x1024x3_S1x1x1024x3_0_2_0_0)

/-- The stack of second views. -/
abbrev seconds : FVec Ideal S6x1024x3 .f32 :=
  stackOf (viewOf x0 _ slices_S1x4x1024x3_S1x1x1024x3_0_1_0_0) (viewOf x0 _ slices_S1x4x1024x3_S1x1x1024x3_0_2_0_0) (viewOf x0 _ slices_S1x4x1024x3_S1x1x1024x3_0_3_0_0)
    (viewOf x0 _ slices_S1x4x1024x3_S1x1x1024x3_0_2_0_0) (viewOf x0 _ slices_S1x4x1024x3_S1x1x1024x3_0_3_0_0) (viewOf x0 _ slices_S1x4x1024x3_S1x1x1024x3_0_3_0_0)

/-- The hidden layer of a per-point network. -/
abbrev hidOf (w : FVec Ideal S3x64 .f32) (b : FVec Ideal S64 .f32) (p : FVec Ideal S6x1024x3 .f32) : FVec Ideal S6x1024x64 .f32 :=
  Host.tanh (addf (Host.dotGeneral dot_S6x1024x3_S3x64_S6x1024x64_2_0_01_1_n_n none p w)
    (broadcastInDim S6x1024x64 ![0, 1, 2] bcast_S1x1x64_S6x1024x64_0_1_2 (broadcastInDim S1x1x64 ![2] bcast_S64_S1x1x64_2 b)))

/-- Points moved by their flow. -/
abbrev movedOf (p : FVec Ideal S6x1024x3 .f32) : FVec Ideal S6x1024x3 .f32 :=
  addf p (addf (Host.dotGeneral dot_S6x1024x64_S64x3_S6x1024x3_2_0_01_1_n_n none (hidOf x1 x2 p) x3)
    (broadcastInDim S6x1024x3 ![0, 1, 2] bcast_S1x1x3_S6x1024x3_0_1_2 (broadcastInDim S1x1x3 ![2] bcast_S3_S1x1x3_2 x4)))

/-- The array of ones. -/
abbrev ones : FVec Ideal S6x1024 .f32 := broadcastInDim S6x1024 ![] bcast_S_S6x1024 (constant S_ .f32 0x3F800000#32)

/-- The confidences of moved points. -/
abbrev confOf (a : FVec Ideal S6x1024x3 .f32) : FVec Ideal S6x1024 .f32 :=
  Host.divf ones (addf ones (Host.exp (Host.negf (shapeCast S6x1024
    (addf (Host.dotGeneral dot_S6x1024x64_S64x1_S6x1024x1_2_0_01_1_n_n none (hidOf x5 x6 a) x7)
      (broadcastInDim S6x1024x1 ![0, 1, 2] bcast_S1x1x1_S6x1024x1_0_1_2 (broadcastInDim S1x1x1 ![2] bcast_S1_S1x1x1_2 x8)))
    shapeCasts_S6x1024x1_S6x1024))))

/-- One value per row of each pair, along the row. -/
abbrev alongRow (w : FVec Ideal S6x1024 .f32) : FVec Ideal S6x1024x1024 .f32 :=
  broadcastInDim S6x1024x1024 ![0, 1, 2] bcast_S6x1024x1_S6x1024x1024_0_1_2 (broadcastInDim S6x1024x1 ![0, 1] bcast_S6x1024_S6x1024x1_0_1 w)

/-- One value per column of each pair, along the column. -/
abbrev alongCol (w : FVec Ideal S6x1024 .f32) : FVec Ideal S6x1024x1024 .f32 :=
  broadcastInDim S6x1024x1024 ![0, 1, 2] bcast_S6x1x1024_S6x1024x1024_0_1_2 (broadcastInDim S6x1x1024 ![0, 2] bcast_S6x1024_S6x1x1024_0_2 w)

/-- The coordinate differences of all pairs of points. -/
abbrev diffOf (a b : FVec Ideal S6x1024x3 .f32) : FVec Ideal S6x1024x1024x3 .f32 :=
  subf (broadcastInDim S6x1024x1024x3 ![0, 1, 2, 3] bcast_S6x1024x1x3_S6x1024x1024x3_0_1_2_3 (broadcastInDim S6x1024x1x3 ![0, 1, 3] bcast_S6x1024x3_S6x1024x1x3_0_1_3 a))
    (broadcastInDim S6x1024x1024x3 ![0, 1, 2, 3] bcast_S6x1x1024x3_S6x1024x1024x3_0_1_2_3 (broadcastInDim S6x1x1024x3 ![0, 2, 3] bcast_S6x1024x3_S6x1x1024x3_0_2_3 b))

/-- An element of the stack of first views. -/
theorem firsts_apply (p : Fin 6) (r : Fin 1024) (k : Fin 3) : firsts x0 (ix3 p r k) = vp x0 (Spec.left p) r k := by
  unfold firsts
  pointwise
  fin_cases p <;> rfl

/-- An element of the stack of second views. -/
theorem seconds_apply (p : Fin 6) (r : Fin 1024) (k : Fin 3) : seconds x0 (ix3 p r k) = vp x0 (Spec.right p) r k := by
  unfold seconds
  pointwise
  fin_cases p <;> rfl

/-- A coordinate of a moved point. -/
theorem movedOf_apply (y : FVec Ideal S6x1024x3 .f32) (p : Fin 6) (r : Fin 1024) (k : Fin 3) :
    movedOf x1 x2 x3 x4 y (ix3 p r k) = mv x1 x2 x3 x4 (fun k => y (ix3 p r k)) k := by
  unfold movedOf
  pointwise
  rfl

/-- A confidence. -/
theorem confOf_apply (y : FVec Ideal S6x1024x3 .f32) (p : Fin 6) (r : Fin 1024) :
    confOf x5 x6 x7 x8 y (ix2 p r) = cf x5 x6 x7 x8 (fun k => y (ix3 p r k)) := by
  unfold confOf
  pointwise
  rfl

/-- A value along a row. -/
theorem alongRow_apply (w : FVec Ideal S6x1024 .f32) (p : Fin 6) (r l : Fin 1024) : alongRow w (ix3 p r l) = w (ix2 p r) := by
  unfold alongRow
  pointwise

/-- A value along a column. -/
theorem alongCol_apply (w : FVec Ideal S6x1024 .f32) (p : Fin 6) (r l : Fin 1024) : alongCol w (ix3 p r l) = w (ix2 p l) := by
  unfold alongCol
  pointwise

/-- A coordinate difference. -/
theorem diffOf_apply (a b : FVec Ideal S6x1024x3 .f32) (p : Fin 6) (r l : Fin 1024) (k : Fin 3) :
    diffOf a b (ix4 p r l k) = a (ix3 p r k) - b (ix3 p l k) := by
  unfold diffOf
  pointwise

end Cert.RefPoint
-- ==== Proof.RefRow.lean ====
/- The reference's logits and softmax as operations on arrays of any values, read at one element over the extended reals. -/
module

public import proofs.«01_k».proof.Proof.Spec
public import proofs.«01_k».proof.Proof.Gen.ReferenceIdeal.Run
public import Idealize.ShloMosaic.Lib.Pointwise

@[expose] public section

set_option maxRecDepth 16384

noncomputable section

namespace Cert.RefRow

open Cert.ReferenceIdeal Cert.ReferenceIdeal.Gen
open Idealize.ShloMosaic Idealize.ShloMosaic.TcCoe

/-- The guard under the roots, `1e-24 · (T · log 2)²`, as an array of one element. -/
abbrev guardOf : FVec Ideal S_ .f32 :=
  mulf (constant S_ .f32 0x179ABE15#32) (mulf (mulf (constant S_ .f32 0x3C23D70A#32) (Host.log (constant S_ .f32 0x40000000#32)))
    (mulf (constant S_ .f32 0x3C23D70A#32) (Host.log (constant S_ .f32 0x40000000#32))))

/-- The distances, from the coordinate differences. -/
abbrev distOf (d : FVec Ideal S6x1024x1024x3 .f32) : FVec Ideal S6x1024x1024 .f32 :=
  Host.sqrt (addf (Host.reduceAdd (mulf d d) (constant S_ .f32 0x00000000#32) reducesTo_S6x1024x1024x3_S6x1024x1024_d3 h_S_)
    (broadcastInDim S6x1024x1024 ![] bcast_S_S6x1024x1024 guardOf))

/-- The distances with the squared distance clamped from below, from the coordinate differences. -/
abbrev clampOf (d : FVec Ideal S6x1024x1024x3 .f32) : FVec Ideal S6x1024x1024 .f32 :=
  Host.sqrt (maximumf (Host.reduceAdd (mulf d d) (constant S_ .f32 0x00000000#32) reducesTo_S6x1024x1024x3_S6x1024x1024_d3 h_S_)
    (broadcastInDim S6x1024x1024 ![] bcast_S_S6x1024x1024 (constant S_ .f32 0x2B8CBCCC#32)))

/-- The logits, from the distances and the confidences. -/
abbrev logitOf (s t u v : FVec Ideal S6x1024x1024 .f32) : FVec Ideal S6x1024x1024 .f32 :=
  Host.divf (addf (mulf (Host.negf s) (Host.divf u (addf u v))) (mulf (Host.negf t) (Host.divf v (addf u v))))
    (broadcastInDim S6x1024x1024 ![] bcast_S_S6x1024x1024 (constant S_ .f32 0x3C23D70A#32))

/-- The exponentials of the logits less the largest of their row. -/
abbrev expOf (x : FVec Ideal S6x1024x1024 .f32) : FVec Ideal S6x1024x1024 .f32 :=
  Host.exp (subf x (broadcastInDim S6x1024x1024 ![0, 1, 2] bcast_S6x1024x1_S6x1024x1024_0_1_2
    (broadcastInDim S6x1024x1 ![0, 1] bcast_S6x1024_S6x1024x1_0_1
      (maximumf (broadcastInDim S6x1024 ![] bcast_S_S6x1024 (constant S_ .f32 0xFF800000#32))
        (Host.reduce FloatOps.maximumf x (constant S_ .f32 0xFF800000#32) reducesTo_S6x1024x1024_S6x1024_d2 h_S_)))))

/-- Exponentials divided by the sum of their row. -/
abbrev normOf (e : FVec Ideal S6x1024x1024 .f32) : FVec Ideal S6x1024x1024 .f32 :=
  Host.divf e (broadcastInDim S6x1024x1024 ![0, 1, 2] bcast_S6x1024x1_S6x1024x1024_0_1_2
    (broadcastInDim S6x1024x1 ![0, 1] bcast_S6x1024_S6x1024x1_0_1
      (Host.reduceAdd e (constant S_ .f32 0x00000000#32) reducesTo_S6x1024x1024_S6x1024_d2 h_S_)))

/-- The guard's value. -/
abbrev guardVal : EReal :=
  Spec.guard * (Spec.temp * Ideal.log (Ideal.ofBits .f32 0x40000000#32) * (Spec.temp * Ideal.log (Ideal.ofBits .f32 0x40000000#32)))

/-- The guard, read. -/
theorem guardOf_apply : guardOf ix0 = guardVal := by
  unfold guardOf
  pointwise
  rfl

/-- A distance, read. -/
theorem distOf_apply (d : FVec Ideal S6x1024x1024x3 .f32) (p : Fin 6) (r l : Fin 1024) :
    distOf d (ix3 p r l) = Ideal.sqrt (∑ k, d (ix4 p r l k) * d (ix4 p r l k) + guardVal) := by
  unfold distOf
  rw [← guardOf_apply]
  generalize guardOf = g
  pointwise

/-- A clamped distance, read. -/
theorem clampOf_apply (d : FVec Ideal S6x1024x1024x3 .f32) (p : Fin 6) (r l : Fin 1024) :
    clampOf d (ix3 p r l) = Ideal.sqrt (max (∑ k, d (ix4 p r l k) * d (ix4 p r l k)) (Ideal.ofBits .f32 0x2B8CBCCC#32)) := by
  unfold clampOf
  pointwise

/-- A logit, read. -/
theorem logitOf_apply (s t u v : FVec Ideal S6x1024x1024 .f32) (p : Fin 6) (r l : Fin 1024) :
    logitOf s t u v (ix3 p r l) = Ideal.div (-(s (ix3 p r l)) * Ideal.div (u (ix3 p r l)) (u (ix3 p r l) + v (ix3 p r l))
      + -(t (ix3 p r l)) * Ideal.div (v (ix3 p r l)) (u (ix3 p r l) + v (ix3 p r l))) Spec.temp := by
  unfold logitOf Spec.temp
  pointwise

/-- The word that starts the largest is the least extended real. -/
theorem bot_word : Ideal.ofBits .f32 0xFF800000#32 = ⊥ := by
  simp [Ideal.ofBits, Ideal.ieee]

/-- The largest of a row along the last of three axes. -/
theorem rowMax_apply {a b c : ℕ} {u : Shape} (x : FVec Ideal ⟨3, ![a, b, c]⟩ .f32) (z : FVec Ideal u .f32)
    (h : (⟨3, ![a, b, c]⟩ : Shape).ReducesTo [2] ⟨2, ![a, b]⟩) (hu : 0 < u.numel) (p : Fin a) (r : Fin b) :
    Host.reduce FloatOps.maximumf x z h hu (ix2 p r) = Finset.univ.fold max (z (Shape.Idx.first hu)) (fun k : Fin c => x (ix3 p r k)) := by
  rw [Host.reduce_eq_fold, Shape.ReducesTo.fold_fiber_r3_a2]
  rfl

/-- An exponential, given its row's largest. -/
theorem expOf_max (x : FVec Ideal S6x1024x1024 .f32) (g : FVec Ideal S6x1024 .f32) (p : Fin 6) (r l : Fin 1024) :
    (Host.exp (subf x (broadcastInDim S6x1024x1024 ![0, 1, 2] bcast_S6x1024x1_S6x1024x1024_0_1_2
      (broadcastInDim S6x1024x1 ![0, 1] bcast_S6x1024_S6x1024x1_0_1
        (maximumf (broadcastInDim S6x1024 ![] bcast_S_S6x1024 (constant S_ .f32 0xFF800000#32)) g))))
      : FVec Ideal S6x1024x1024 .f32) (ix3 p r l) = Ideal.exp (x (ix3 p r l) - g (ix2 p r)) := by
  pointwise
  rw [bot_word, max_eq_right bot_le]

/-- An exponential, read. -/
theorem expOf_apply (x : FVec Ideal S6x1024x1024 .f32) (p : Fin 6) (r l : Fin 1024) :
    expOf x (ix3 p r l) = Ideal.exp (x (ix3 p r l) - Finset.univ.fold max ⊥ (fun k : Fin 1024 => x (ix3 p r k))) := by
  refine (expOf_max x _ p r l).trans ?_
  rw [rowMax_apply]
  show Ideal.exp (_ - Finset.univ.fold max (Ideal.ofBits .f32 0xFF800000#32) _) = _
  rw [bot_word]

/-- A finished element, read. -/
theorem normOf_apply (e : FVec Ideal S6x1024x1024 .f32) (p : Fin 6) (r l : Fin 1024) :
    normOf e (ix3 p r l) = Ideal.div (e (ix3 p r l)) (∑ k : Fin 1024, e (ix3 p r k)) := by
  unfold normOf
  pointwise

/-- The softmax of an array of logits, read. -/
theorem soft_apply (x : FVec Ideal S6x1024x1024 .f32) (p : Fin 6) (r l : Fin 1024) :
    normOf (expOf x) (ix3 p r l) = Spec.refRow (fun k => x (ix3 p r k)) l := by
  rw [normOf_apply]
  simp only [expOf_apply]
  rfl

end Cert.RefRow
-- ==== Proof.RefArray.lean ====
/- The array of soft assignments by a given distance, of the argument arrays: at each element, the softmax of a row of
   logits over the points of a pair of views. The reference computes the one by the guarded distance. -/
module

public import proofs.«01_k».proof.Proof.RefPoint
public import proofs.«01_k».proof.Proof.RefRow

@[expose] public section

set_option maxRecDepth 16384

noncomputable section

namespace Cert.RefArray

open Cert.ReferenceIdeal Cert.ReferenceIdeal.Gen Cert.RefPoint
open Idealize.ShloMosaic Idealize.ShloMosaic.TcCoe

section
variable (x0 : FVec Ideal S1x4x1024x3 .f32) (x1 : FVec Ideal S3x64 .f32) (x2 : FVec Ideal S64 .f32) (x3 : FVec Ideal S64x3 .f32)
  (x4 : FVec Ideal S3 .f32) (x5 : FVec Ideal S3x64 .f32) (x6 : FVec Ideal S64 .f32) (x7 : FVec Ideal S64x1 .f32) (x8 : FVec Ideal S1 .f32)
  (root : FVec Ideal S6x1024x1024x3 .f32 → FVec Ideal S6x1024x1024 .f32) (dist : Spec.Pt → Spec.Pt → EReal)

/-- The softmax row for point `r` of view `i` against view `j` by the distance `dist`, read at the point `l`. -/
def row (i j : Fin 4) (r l : Fin 1024) : EReal :=
  Spec.refRow (fun k => Spec.logitBy dist (mv x1 x2 x3 x4 (vp x0 i r)) (vp x0 i r) (cf x5 x6 x7 x8 (mv x1 x2 x3 x4 (vp x0 i r)))
    (mv x1 x2 x3 x4 (vp x0 j k)) (vp x0 j k) (cf x5 x6 x7 x8 (mv x1 x2 x3 x4 (vp x0 j k)))) l

/-- The logits, with `root` making the distances from the coordinate differences. -/
abbrev logits : FVec Ideal S6x1024x1024 .f32 :=
  RefRow.logitOf (root (diffOf (movedOf x1 x2 x3 x4 (firsts x0)) (seconds x0))) (root (diffOf (firsts x0) (movedOf x1 x2 x3 x4 (seconds x0))))
    (alongRow (confOf x5 x6 x7 x8 (movedOf x1 x2 x3 x4 (firsts x0)))) (alongCol (confOf x5 x6 x7 x8 (movedOf x1 x2 x3 x4 (seconds x0))))

/-- The soft assignments. -/
abbrev assign : FVec Ideal S6x1x1024x1024 .f32 :=
  broadcastInDim S6x1x1024x1024 ![0, 2, 3] bcast_S6x1024x1024_S6x1x1024x1024_0_2_3
    (RefRow.normOf (RefRow.expOf (logits x0 x1 x2 x3 x4 x5 x6 x7 x8 root)))

/-- The logit of point `r` of the first view and point `l` of the second. -/
theorem logit_apply (h : ∀ d p r l (a q : Spec.Pt), (∀ k, d (ix4 p r l k) = a k - q k) → root d (ix3 p r l) = dist a q)
    (p : Fin 6) (r l : Fin 1024) :
    logits x0 x1 x2 x3 x4 x5 x6 x7 x8 root (ix3 p r l)
      = Spec.logitBy dist (mv x1 x2 x3 x4 (vp x0 (Spec.left p) r)) (vp x0 (Spec.left p) r) (cf x5 x6 x7 x8 (mv x1 x2 x3 x4 (vp x0 (Spec.left p) r)))
          (mv x1 x2 x3 x4 (vp x0 (Spec.right p) l)) (vp x0 (Spec.right p) l) (cf x5 x6 x7 x8 (mv x1 x2 x3 x4 (vp x0 (Spec.right p) l))) := by
  have hf : ∀ r, (fun k => firsts x0 (ix3 p r k)) = vp x0 (Spec.left p) r := fun r => funext (firsts_apply x0 p r)
  have hs : ∀ r, (fun k => seconds x0 (ix3 p r k)) = vp x0 (Spec.right p) r := fun r => funext (seconds_apply x0 p r)
  have mf : ∀ r k, movedOf x1 x2 x3 x4 (firsts x0) (ix3 p r k) = mv x1 x2 x3 x4 (vp x0 (Spec.left p) r) k := fun r k => by
    rw [movedOf_apply, hf]
  have ms : ∀ r k, movedOf x1 x2 x3 x4 (seconds x0) (ix3 p r k) = mv x1 x2 x3 x4 (vp x0 (Spec.right p) r) k := fun r k => by
    rw [movedOf_apply, hs]
  have d1 := h (diffOf (movedOf x1 x2 x3 x4 (firsts x0)) (seconds x0)) p r l _ _
    (fun k => (diffOf_apply _ _ p r l k).trans (congrArg₂ (· - ·) (mf r k) (seconds_apply x0 p l k)))
  have d2 := h (diffOf (firsts x0) (movedOf x1 x2 x3 x4 (seconds x0))) p r l _ _
    (fun k => (diffOf_apply _ _ p r l k).trans (congrArg₂ (· - ·) (firsts_apply x0 p r k) (ms l k)))
  have c1 := (confOf_apply x5 x6 x7 x8 (movedOf x1 x2 x3 x4 (firsts x0)) p r).trans (congrArg (cf x5 x6 x7 x8) (funext (mf r)))
  have c2 := (confOf_apply x5 x6 x7 x8 (movedOf x1 x2 x3 x4 (seconds x0)) p l).trans (congrArg (cf x5 x6 x7 x8) (funext (ms l)))
  refine (RefRow.logitOf_apply _ _ _ _ p r l).trans ?_
  rw [d1, d2, alongRow_apply, alongCol_apply, c1, c2]
  rfl

/-- An element of the soft assignments. -/
theorem assign_apply (h : ∀ d p r l (a q : Spec.Pt), (∀ k, d (ix4 p r l k) = a k - q k) → root d (ix3 p r l) = dist a q)
    (p : Fin 6) (z : Fin 1) (r l : Fin 1024) :
    assign x0 x1 x2 x3 x4 x5 x6 x7 x8 root (ix4 p z r l) = row x0 x1 x2 x3 x4 x5 x6 x7 x8 dist (Spec.left p) (Spec.right p) r l := by
  have e : ∀ y : FVec Ideal S6x1024x1024 .f32,
      (broadcastInDim S6x1x1024x1024 ![0, 2, 3] bcast_S6x1024x1024_S6x1x1024x1024_0_2_3 y : FVec Ideal S6x1x1024x1024 .f32) (ix4 p z r l) = y (ix3 p r l) := fun y => by
    pointwise
  refine (e _).trans ((RefRow.soft_apply _ p r l).trans ?_)
  exact congrArg (Spec.refRow · l) (funext fun k => logit_apply x0 x1 x2 x3 x4 x5 x6 x7 x8 root dist h p r k)

end

/-- The guarded root makes the guarded distance. -/
theorem distOf_diff (d : FVec Ideal S6x1024x1024x3 .f32) (p : Fin 6) (r l : Fin 1024) (a q : Spec.Pt)
    (h : ∀ k, d (ix4 p r l k) = a k - q k) : RefRow.distOf d (ix3 p r l) = Spec.refDist a q := by
  rw [RefRow.distOf_apply]
  simp only [h]
  rfl

/-- The clamped root makes the clamped distance. -/
theorem clampOf_diff (d : FVec Ideal S6x1024x1024x3 .f32) (p : Fin 6) (r l : Fin 1024) (a q : Spec.Pt)
    (h : ∀ k, d (ix4 p r l k) = a k - q k) : RefRow.clampOf d (ix3 p r l) = Spec.clampDist a q := by
  rw [RefRow.clampOf_apply]
  simp only [h]
  rfl

/-- The array the reference leaves is the soft assignment of its arguments by the guarded distance. -/
theorem result_eq (V : Valuation τ sig (Elt Ideal)) :
    broadcastInDim S6x1x1024x1024 ![0, 2, 3] bcast_S6x1024x1024_S6x1x1024x1024_0_2_3 (RefRow.normOf (Value.res_main_v128 V))
      = assign (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) (V (Proc.devRef .tc main_arg7))
          (V (Proc.devRef .tc main_arg8)) RefRow.distOf := rfl

end Cert.RefArray
-- ==== Proof.Soft.lean ====
/- The mathematics of one row: over finite points and weights the kernel's form of a row of the soft assignment equals
   the reference's. The kernel scales coordinates by 1/(T·log 2), so its blends are the reference's logits divided by
   −log 2, and base-2 powers of the one are natural exponentials of the other; a softmax is unchanged by any shift. -/
module

public import proofs.«01_k».proof.Proof.Spec

@[expose] public section

set_option maxRecDepth 16384

noncomputable section

namespace Cert.Spec

open Idealize.ShloMosaic

/-- The temperature is the real number nearest 0.01 in the format. -/
theorem temp_eq : temp = ((5368709 / 536870912 : ℝ) : EReal) := by
  unfold temp
  simp [Ideal.ofBits, Ideal.ieee, -EReal.coe_mul]; norm_num

/-- The guard as a real number. -/
def eR : ℝ := 10141205 / 2 ^ 103

theorem guard_eq : guard = (eR : EReal) := by
  unfold guard eR
  simp [Ideal.ofBits, Ideal.ieee, -EReal.coe_mul]; norm_num

theorem two_eq : Ideal.ofBits .f32 0x40000000#32 = ((2 : ℝ) : EReal) := by
  simp [Ideal.ofBits, Ideal.ieee, -EReal.coe_mul]; norm_num

/-- The smallest of finitely many reals, taken from +∞, is a real. -/
theorem fold_min_coe (f : Fin 1024 → ℝ) : ∃ M : ℝ, Finset.univ.fold min (⊤ : EReal) (fun k => (f k : EReal)) = (M : EReal) := by
  have h : ∀ s : Finset (Fin 1024), (s = ∅ ∧ s.fold min (⊤ : EReal) (fun k => (f k : EReal)) = ⊤)
      ∨ ∃ M : ℝ, s.fold min (⊤ : EReal) (fun k => (f k : EReal)) = (M : EReal) := by
    intro s
    induction s using Finset.induction_on with
    | empty => exact Or.inl ⟨rfl, by simp⟩
    | insert a s ha ih =>
      right
      rw [Finset.fold_insert ha]
      rcases ih with ⟨_, h⟩ | ⟨M, h⟩
      · exact ⟨f a, by rw [h]; simp⟩
      · exact ⟨min (f a) M, by rw [h]; exact (EReal.coe_strictMono.monotone.map_min).symm⟩
  rcases h Finset.univ with ⟨h, _⟩ | h
  · exact absurd (Finset.mem_univ (0 : Fin 1024)) (by rw [h]; simp)
  · exact h

/-- The greatest of finitely many reals, taken from −∞, is a real. -/
theorem fold_max_coe (f : Fin 1024 → ℝ) : ∃ M : ℝ, Finset.univ.fold max (⊥ : EReal) (fun k => (f k : EReal)) = (M : EReal) := by
  have h : ∀ s : Finset (Fin 1024), (s = ∅ ∧ s.fold max (⊥ : EReal) (fun k => (f k : EReal)) = ⊥)
      ∨ ∃ M : ℝ, s.fold max (⊥ : EReal) (fun k => (f k : EReal)) = (M : EReal) := by
    intro s
    induction s using Finset.induction_on with
    | empty => exact Or.inl ⟨rfl, by simp⟩
    | insert a s ha ih =>
      right
      rw [Finset.fold_insert ha]
      rcases ih with ⟨_, h⟩ | ⟨M, h⟩
      · exact ⟨f a, by rw [h]; simp⟩
      · exact ⟨max (f a) M, by rw [h]; exact (EReal.coe_strictMono.monotone.map_max).symm⟩
  rcases h Finset.univ with ⟨h, _⟩ | h
  · exact absurd (Finset.mem_univ (0 : Fin 1024)) (by rw [h]; simp)
  · exact h

/-- A sum of real numbers, taken over the extended reals, is their real sum. -/
theorem sum_coe {n : ℕ} (f : Fin n → ℝ) : ∑ k, (f k : EReal) = ((∑ k, f k : ℝ) : EReal) :=
  (map_sum (⟨⟨Real.toEReal, EReal.coe_zero⟩, EReal.coe_add⟩ : ℝ →+ EReal) f Finset.univ).symm

/-- The squared distance of two points with real coordinates. -/
def sqd (a p : Fin 3 → ℝ) : ℝ := (a 0 - p 0) ^ 2 + (a 1 - p 1) ^ 2 + (a 2 - p 2) ^ 2

theorem sqd_nonneg (a p : Fin 3 → ℝ) : 0 ≤ sqd a p := by unfold sqd; positivity

/-- The scale as a real number. -/
def cR : ℝ := (Real.log 2)⁻¹ * (5368709 / 536870912)⁻¹
/-- The reference's guarded distance over the reals. -/
def distR (a p : Fin 3 → ℝ) : ℝ := Real.sqrt (sqd a p + eR / cR ^ 2)

theorem log2_pos : 0 < Real.log 2 := Real.log_pos (by norm_num)
theorem cR_pos : 0 < cR := by unfold cR; have := log2_pos; positivity
theorem eR_pos : 0 < eR := by unfold eR; norm_num

/-- The kernel's scaled distance of real points is the scale times the reference's distance. -/
theorem kerDist_coe (a p : Fin 3 → ℝ) :
    kerDist (fun k => (a k : EReal)) (fun k => (p k : EReal)) = ((cR * distR a p : ℝ) : EReal) := by
  have hs : kerSq (fun k => (a k : EReal)) (fun k => (p k : EReal)) = ((cR ^ 2 * (sqd a p + eR / cR ^ 2) : ℝ) : EReal) := by
    have e1 : cR ^ 2 * (sqd a p + eR / cR ^ 2) = (a 0 * cR - p 0 * cR) * (a 0 * cR - p 0 * cR)
        + (a 1 * cR - p 1 * cR) * (a 1 * cR - p 1 * cR) + ((a 2 * cR - p 2 * cR) * (a 2 * cR - p 2 * cR) + eR) := by
      have := cR_pos.ne'
      unfold sqd; field_simp; ring
    rw [e1]
    unfold kerSq
    rw [guard_eq]
    simp only [scale, ← cR.eq_1]
    norm_cast
  have hp : 0 < cR ^ 2 * (sqd a p + eR / cR ^ 2) := by
    have := cR_pos; have := eR_pos; have := sqd_nonneg a p; positivity
  unfold kerDist
  rw [hs, Ideal.rsqrt_coe, if_neg hp.le.not_gt, if_neg hp.ne', ← EReal.coe_mul]
  congr 1
  rw [← div_eq_mul_inv, Real.div_sqrt, Real.sqrt_mul (by positivity), Real.sqrt_sq cR_pos.le]
  rfl

/-- The reference's distance of real points. -/
theorem refDist_coe (a p : Fin 3 → ℝ) :
    refDist (fun k => (a k : EReal)) (fun k => (p k : EReal)) = ((distR a p : ℝ) : EReal) := by
  have h2 : Ideal.log ((2 : ℝ) : EReal) = ((Real.log 2 : ℝ) : EReal) := by
    rw [Ideal.log_coe, if_neg (by norm_num)]
  have hv : ∑ k, ((a k : EReal) - (p k : EReal)) * ((a k : EReal) - (p k : EReal))
    + guard * (temp * Ideal.log (Ideal.ofBits .f32 0x40000000#32) * (temp * Ideal.log (Ideal.ofBits .f32 0x40000000#32)))
      = ((sqd a p + eR / cR ^ 2 : ℝ) : EReal) := by
    have e1 : sqd a p + eR / cR ^ 2 = (a 0 - p 0) * (a 0 - p 0) + (a 1 - p 1) * (a 1 - p 1) + (a 2 - p 2) * (a 2 - p 2)
        + eR * (5368709 / 536870912 * Real.log 2 * (5368709 / 536870912 * Real.log 2)) := by
      have := log2_pos.ne'
      unfold sqd cR; field_simp
    rw [e1, two_eq, h2, temp_eq, guard_eq, Fin.sum_univ_three]
    norm_cast
  have hp : 0 < sqd a p + eR / cR ^ 2 := by
    have := cR_pos; have := eR_pos; have := sqd_nonneg a p; positivity
  unfold refDist
  rw [hv, Ideal.sqrt_coe, if_neg hp.le.not_gt]
  rfl

/-- Base-2 powers of the kernel's exponents are natural exponentials. -/
theorem exp2_eq (x : ℝ) : Ideal.exp2 (x : EReal) = ((Real.exp (Real.log 2 * x) : ℝ) : EReal) := by
  rw [Ideal.exp2_coe]
  congr 1
  show (2 : ℝ) ^ x = _
  rw [Real.rpow_def_of_pos (by norm_num)]

/-- A softmax is unchanged by a shift, over the reals. -/
theorem shift (x y : Fin 1024 → ℝ) (s : ℝ) (h : ∀ k, y k = x k + s) (r : Fin 1024) :
    Real.exp (y r) * (1 / ∑ k, Real.exp (y k)) = Real.exp (x r) * (1 / ∑ k, Real.exp (x k)) := by
  have hS : 0 < ∑ k, Real.exp (x k) := Finset.sum_pos (fun k _ => Real.exp_pos _) ⟨0, Finset.mem_univ _⟩
  have e : ∑ k, Real.exp (y k) = (∑ k, Real.exp (x k)) * Real.exp s := by
    rw [Finset.sum_mul]; exact Finset.sum_congr rfl fun k _ => by rw [h k, Real.exp_add]
  rw [e, h r, Real.exp_add]
  have := Real.exp_pos s
  field_simp

/-- The two forms of a row agree where the kernel's blends are the reference's logits divided by −log 2. -/
theorem row_eq (b l : Fin 1024 → ℝ) (h : ∀ k, l k = -(Real.log 2 * b k)) (r : Fin 1024) :
    kerRow (fun k => (b k : EReal)) r = refRow (fun k => (l k : EReal)) r := by
  obtain ⟨m, hm⟩ := fold_min_coe b
  obtain ⟨M, hM⟩ := fold_max_coe l
  have hk : 0 < ∑ k, Real.exp (Real.log 2 * (m - b k)) := Finset.sum_pos (fun k _ => Real.exp_pos _) ⟨0, Finset.mem_univ _⟩
  have hr : 0 < ∑ k, Real.exp (l k - M) := Finset.sum_pos (fun k _ => Real.exp_pos _) ⟨0, Finset.mem_univ _⟩
  unfold kerRow refRow
  rw [hm, hM]
  simp only [← EReal.coe_sub, exp2_eq, Ideal.exp_coe]
  rw [sum_coe, sum_coe, Ideal.div_coe hk.ne', Ideal.div_coe hr.ne', one_mul, ← EReal.coe_mul, ← EReal.coe_mul]
  congr 1
  refine shift (fun k => l k - M) (fun k => Real.log 2 * (m - b k)) (Real.log 2 * m + M) (fun k => ?_) r
  simp only [h k]; ring

/-- The kernel's blend of real points, and the reference's logit, at positive confidences. -/
theorem blend_coe (a p b q : Fin 3 → ℝ) (u v : ℝ) (hu : 0 < u) (hv : 0 < v) :
    kerBlend (fun k => (a k : EReal)) (fun k => (p k : EReal)) (u : EReal) (fun k => (b k : EReal)) (fun k => (q k : EReal)) (v : EReal)
      = ((cR * distR a q + (cR * distR p b - cR * distR a q) * (v * (1 / (u + v))) : ℝ) : EReal) := by
  have h : u + v ≠ 0 := by positivity
  unfold kerBlend
  rw [kerDist_coe, kerDist_coe, ← EReal.coe_add, Ideal.div_coe h]
  norm_cast

/-- A logit by a distance that is real at real points. -/
theorem logitBy_coe (dist : Pt → Pt → EReal) (d : (Fin 3 → ℝ) → (Fin 3 → ℝ) → ℝ)
    (hd : ∀ a p : Fin 3 → ℝ, dist (fun k => (a k : EReal)) (fun k => (p k : EReal)) = ((d a p : ℝ) : EReal))
    (a p b q : Fin 3 → ℝ) (u v : ℝ) (hu : 0 < u) (hv : 0 < v) :
    logitBy dist (fun k => (a k : EReal)) (fun k => (p k : EReal)) (u : EReal) (fun k => (b k : EReal)) (fun k => (q k : EReal)) (v : EReal)
      = (((-(d a q) * (u * (1 / (u + v))) + -(d p b) * (v * (1 / (u + v)))) * (1 / (5368709 / 536870912)) : ℝ) : EReal) := by
  have h : u + v ≠ 0 := by positivity
  unfold logitBy
  rw [hd, hd, temp_eq, ← EReal.coe_add, Ideal.div_coe h, Ideal.div_coe h, Ideal.div_coe (by norm_num)]
  norm_cast

/-- The logit is −log 2 times the blend. -/
theorem logit_eq (d d' u v : ℝ) (hu : 0 < u) (hv : 0 < v) :
    (-d * (u * (1 / (u + v))) + -d' * (v * (1 / (u + v)))) * (1 / (5368709 / 536870912))
      = -(Real.log 2 * (cR * d + (cR * d' - cR * d) * (v * (1 / (u + v))))) := by
  have := log2_pos.ne'
  have h : u + v ≠ 0 := by positivity
  unfold cR
  field_simp
  ring

/-- A hidden unit is a real number, whatever the point and the weights. -/
theorem hid_coe (W : Fin 3 → Fin 64 → EReal) (b : Fin 64 → EReal) (p : Pt) (n : Fin 64) : ∃ r : ℝ, hid W b p n = (r : EReal) := by
  unfold hid
  induction (∑ k, p k * W k n + b n) with
  | bot => exact ⟨-1, by simp⟩
  | top => exact ⟨1, by simp⟩
  | coe r => exact ⟨Real.tanh r, rfl⟩

/-- A moved point has real coordinates when the point and the output layer of the network are real. -/
theorem moved_coe (W1 : Fin 3 → Fin 64 → EReal) (b1 : Fin 64 → EReal) (W2 : Fin 64 → Fin 3 → EReal) (b2 : Fin 3 → EReal) (p : Pt)
    (hW : ∀ n k, ∃ r : ℝ, W2 n k = (r : EReal)) (hb : ∀ k, ∃ r : ℝ, b2 k = (r : EReal)) (hp : ∀ k, ∃ r : ℝ, p k = (r : EReal)) :
    ∃ a : Fin 3 → ℝ, moved W1 b1 W2 b2 p = fun k => (a k : EReal) := by
  choose w hw using hW
  choose c hc using hb
  choose q hq using hp
  choose h hh using hid_coe W1 b1 p
  refine ⟨fun k => q k + (∑ n, h n * w n k + c k), ?_⟩
  funext k
  unfold moved
  simp only [hw, hc, hq, hh, ← EReal.coe_mul]
  rw [sum_coe]
  norm_cast

/-- A confidence is a positive real number when the output layer of its network is real. -/
theorem conf_coe (W1 : Fin 3 → Fin 64 → EReal) (b1 : Fin 64 → EReal) (W2 : Fin 64 → EReal) (b2 : EReal) (a : Pt)
    (hW : ∀ n, ∃ r : ℝ, W2 n = (r : EReal)) (hb : ∃ r : ℝ, b2 = (r : EReal)) :
    ∃ u : ℝ, 0 < u ∧ conf W1 b1 W2 b2 a = (u : EReal) := by
  choose w hw using hW
  obtain ⟨c, rfl⟩ := hb
  choose h hh using hid_coe W1 b1 a
  refine ⟨(1 + Real.exp (-(∑ n, h n * w n + c)))⁻¹, by positivity, ?_⟩
  unfold conf
  simp only [hw, hh, ← EReal.coe_mul]
  rw [sum_coe, ← EReal.coe_add, Ideal.logistic_coe]

/-- THE ROW: at real points and positive real confidences the kernel's row is the reference's. -/
theorem ker_eq_ref (a p : Pt) (u : EReal) (b q : Fin 1024 → Pt) (v : Fin 1024 → EReal)
    (ha : ∃ f : Fin 3 → ℝ, a = fun k => (f k : EReal)) (hp : ∃ f : Fin 3 → ℝ, p = fun k => (f k : EReal))
    (hu : ∃ x : ℝ, 0 < x ∧ u = (x : EReal))
    (hb : ∀ k, ∃ f : Fin 3 → ℝ, b k = fun i => (f i : EReal)) (hq : ∀ k, ∃ f : Fin 3 → ℝ, q k = fun i => (f i : EReal))
    (hv : ∀ k, ∃ x : ℝ, 0 < x ∧ v k = (x : EReal)) (r : Fin 1024) :
    kerRow (fun k => kerBlend a p u (b k) (q k) (v k)) r = refRow (fun k => refLogit a p u (b k) (q k) (v k)) r := by
  obtain ⟨a, rfl⟩ := ha
  obtain ⟨p, rfl⟩ := hp
  obtain ⟨u, hu, rfl⟩ := hu
  choose b hb using hb
  choose q hq using hq
  choose v hv hv' using hv
  simp only [hb, hq, hv']
  rw [show (fun k => kerBlend (fun k => (a k : EReal)) (fun k => (p k : EReal)) (u : EReal) (fun i => (b k i : EReal)) (fun i => (q k i : EReal)) (v k : EReal)) = _
      from funext fun k => blend_coe a p (b k) (q k) u (v k) hu (hv k),
    show (fun k => refLogit (fun k => (a k : EReal)) (fun k => (p k : EReal)) (u : EReal) (fun i => (b k i : EReal)) (fun i => (q k i : EReal)) (v k : EReal)) = _
      from funext fun k => logitBy_coe refDist distR refDist_coe a p (b k) (q k) u (v k) hu (hv k)]
  exact row_eq _ _ (fun k => logit_eq _ _ _ _ hu (hv k)) r

end Cert.Spec

end
-- ==== Proof.Near.lean ====
/- How far the kernel's row is from the row of `reference.py`'s own distance, which clamps the squared distance from
   below: the two distances differ by at most 1e-6, so the logits by little more than 1e-4, and entries of the softmax
   by at most 0.00021 of themselves. -/
module

public import proofs.«01_k».proof.Proof.Soft

@[expose] public section

set_option maxRecDepth 16384

noncomputable section

namespace Cert.Spec

open Idealize.ShloMosaic

/-- The clamp as a real number. -/
def tR : ℝ := 9223372 / 2 ^ 63

/-- The clamp's word is that real. -/
theorem clamp_eq : Ideal.ofBits .f32 0x2B8CBCCC#32 = (tR : EReal) := by
  unfold tR
  simp [Ideal.ofBits, Ideal.ieee, -EReal.coe_mul]; norm_num

/-- The tolerance as a real number. -/
def tolR : ℝ := 14431090 / 2 ^ 36

/-- The tolerance's word is that real. -/
theorem tol_eq : Ideal.ofBits .f32 0x395C3372#32 = (tolR : EReal) := by
  unfold tolR
  simp [Ideal.ofBits, Ideal.ieee, -EReal.coe_mul]; norm_num

/-- The clamped distance over the reals. -/
def clampR (a p : Fin 3 → ℝ) : ℝ := Real.sqrt (max (sqd a p) tR)

/-- The clamped distance of real points is that real. -/
theorem clampDist_coe (a p : Fin 3 → ℝ) :
    clampDist (fun k => (a k : EReal)) (fun k => (p k : EReal)) = ((clampR a p : ℝ) : EReal) := by
  have hv : max (∑ k, ((a k : EReal) - (p k : EReal)) * ((a k : EReal) - (p k : EReal))) (tR : EReal)
      = ((max (sqd a p) tR : ℝ) : EReal) := by
    have e1 : sqd a p = (a 0 - p 0) * (a 0 - p 0) + (a 1 - p 1) * (a 1 - p 1) + (a 2 - p 2) * (a 2 - p 2) := by
      unfold sqd; ring
    rw [EReal.coe_strictMono.monotone.map_max, e1, Fin.sum_univ_three]
    norm_cast
  unfold clampDist
  rw [clamp_eq, hv, Ideal.sqrt_coe, if_neg (not_lt.2 (le_max_of_le_left (sqd_nonneg a p)))]
  rfl

/-- The kernel's guard is below the clamp. -/
theorem guard_le : eR / cR ^ 2 ≤ tR := by
  have hl := log2_pos
  have hl1 : Real.log 2 < 1 := by
    have := Real.log_lt_sub_one_of_pos (x := 2) (by norm_num) (by norm_num); linarith
  have hc : 1 ≤ cR := by
    unfold cR
    have h1 : 1 ≤ (Real.log 2)⁻¹ := (one_le_inv₀ hl).2 hl1.le
    have h2 : (1 : ℝ) ≤ (5368709 / 536870912)⁻¹ := by norm_num
    nlinarith
  have h : eR / cR ^ 2 ≤ eR := div_le_self eR_pos.le (one_le_pow₀ hc)
  refine h.trans ?_
  unfold eR tR; norm_num

/-- The root of a sum is at most the sum of a root and a bound on the other root. -/
theorem sqrt_bound (D e : ℝ) (hD : 0 ≤ D) (he : e ≤ D + tR) : Real.sqrt e ≤ Real.sqrt D + 1 / 1000000 := by
  have ht : tR ≤ (1 / 1000000) ^ 2 := by unfold tR; norm_num
  refine Real.sqrt_le_iff.2 ⟨by positivity, ?_⟩
  have := Real.sq_sqrt hD
  have := Real.sqrt_nonneg D
  nlinarith

/-- The guarded and the clamped distance differ by at most 1e-6. -/
theorem dist_near (a p : Fin 3 → ℝ) : |distR a p - clampR a p| ≤ 1 / 1000000 := by
  have hD := sqd_nonneg a p
  have ht : 0 ≤ tR := by unfold tR; norm_num
  have he : 0 ≤ eR / cR ^ 2 := by have := eR_pos; have := cR_pos; positivity
  have h1 : Real.sqrt (sqd a p) ≤ distR a p := Real.sqrt_le_sqrt (by linarith)
  have h2 : Real.sqrt (sqd a p) ≤ clampR a p := Real.sqrt_le_sqrt (le_max_left _ _)
  have h3 : distR a p ≤ Real.sqrt (sqd a p) + 1 / 1000000 := sqrt_bound _ _ hD (by have := guard_le; linarith)
  have h4 : clampR a p ≤ Real.sqrt (sqd a p) + 1 / 1000000 := sqrt_bound _ _ hD (max_le (by linarith) (by linarith))
  rw [abs_le]
  constructor <;> linarith

/-- Logits by distances that differ by at most 1e-6 differ by at most 1.0001e-4. -/
theorem logit_near (d d' e e' u v : ℝ) (hu : 0 < u) (hv : 0 < v) (h : |d - e| ≤ 1 / 1000000) (h' : |d' - e'| ≤ 1 / 1000000) :
    |(-d * (u * (1 / (u + v))) + -d' * (v * (1 / (u + v)))) * (1 / (5368709 / 536870912))
      - (-e * (u * (1 / (u + v))) + -e' * (v * (1 / (u + v)))) * (1 / (5368709 / 536870912))| ≤ 10001 / 100000000 := by
  have hs : 0 < u + v := by positivity
  have hw : u * (1 / (u + v)) + v * (1 / (u + v)) = 1 := by field_simp
  have hwu : 0 ≤ u * (1 / (u + v)) := by positivity
  have hwv : 0 ≤ v * (1 / (u + v)) := by positivity
  generalize u * (1 / (u + v)) = s at hw hwu
  generalize v * (1 / (u + v)) = t at hw hwv
  rw [abs_le] at h h'
  rw [abs_le]
  constructor <;> nlinarith

/-- Entries of the softmax of rows that differ by at most `δ` differ by at most `exp (2δ) − 1` of themselves. -/
theorem soft_near (x y : Fin 1024 → ℝ) (δ : ℝ) (h : ∀ k, |x k - y k| ≤ δ) (r : Fin 1024) :
    |Real.exp (x r) * (1 / ∑ k, Real.exp (x k)) - Real.exp (y r) * (1 / ∑ k, Real.exp (y k))|
      ≤ (Real.exp (2 * δ) - 1) * (Real.exp (y r) * (1 / ∑ k, Real.exp (y k))) := by
  have pos : ∀ z : Fin 1024 → ℝ, 0 < ∑ k, Real.exp (z k) := fun z => Finset.sum_pos (fun k _ => Real.exp_pos _) ⟨0, Finset.mem_univ _⟩
  have le : ∀ z w : Fin 1024 → ℝ, (∀ k, z k ≤ w k + δ) → (∀ k, w k ≤ z k + δ) →
      Real.exp (z r) * (1 / ∑ k, Real.exp (z k)) ≤ Real.exp (2 * δ) * (Real.exp (w r) * (1 / ∑ k, Real.exp (w k))) := by
    intro z w h1 h2
    have e1 : Real.exp (z r) ≤ Real.exp δ * Real.exp (w r) := by
      rw [← Real.exp_add]; exact Real.exp_le_exp.2 (by linarith [h1 r])
    have e2 : ∑ k, Real.exp (w k) ≤ Real.exp δ * ∑ k, Real.exp (z k) := by
      rw [Finset.mul_sum]
      refine Finset.sum_le_sum fun k _ => ?_
      rw [← Real.exp_add]; exact Real.exp_le_exp.2 (by linarith [h2 k])
    have hz := pos z
    have hw := pos w
    rw [mul_one_div, mul_one_div, ← mul_div_assoc, div_le_div_iff₀ hz hw, two_mul, Real.exp_add]
    calc Real.exp (z r) * ∑ k, Real.exp (w k)
        ≤ (Real.exp δ * Real.exp (w r)) * (Real.exp δ * ∑ k, Real.exp (z k)) :=
          mul_le_mul e1 e2 hw.le (by positivity)
      _ = _ := by ring
  have hx := le x y (fun k => by have := abs_le.1 (h k); linarith) (fun k => by have := abs_le.1 (h k); linarith)
  have hy := le y x (fun k => by have := abs_le.1 (h k); linarith) (fun k => by have := abs_le.1 (h k); linarith)
  have hδ : 0 ≤ δ := (abs_nonneg _).trans (h r)
  have hE : 1 ≤ Real.exp (2 * δ) := Real.one_le_exp (by linarith)
  have hq : 0 ≤ Real.exp (y r) * (1 / ∑ k, Real.exp (y k)) := by have := pos y; positivity
  have hp : 0 ≤ Real.exp (x r) * (1 / ∑ k, Real.exp (x k)) := by have := pos x; positivity
  generalize Real.exp (y r) * (1 / ∑ k, Real.exp (y k)) = q at *
  generalize Real.exp (x r) * (1 / ∑ k, Real.exp (x k)) = p at *
  generalize Real.exp (2 * δ) = E at *
  rw [abs_le]
  constructor
  · rcases le_total q p with hqp | hpq <;> nlinarith
  · linarith

/-- At the logits' distance the factor is below the tolerance. -/
theorem tol_le : Real.exp (2 * (10001 / 100000000)) - 1 ≤ tolR := by
  have h := Real.exp_bound_div_one_sub_of_interval (x := 2 * (10001 / 100000000)) (by norm_num) (by norm_num)
  have : (1 : ℝ) / (1 - 2 * (10001 / 100000000)) - 1 ≤ tolR := by unfold tolR; norm_num
  linarith

/-- The softmax of a row of reals, over the reals. -/
theorem refRow_coe (l : Fin 1024 → ℝ) (r : Fin 1024) :
    refRow (fun k => (l k : EReal)) r = ((Real.exp (l r) * (1 / ∑ k, Real.exp (l k)) : ℝ) : EReal) := by
  obtain ⟨M, hM⟩ := fold_max_coe l
  have hr : 0 < ∑ k, Real.exp (l k - M) := Finset.sum_pos (fun k _ => Real.exp_pos _) ⟨0, Finset.mem_univ _⟩
  unfold refRow
  rw [hM]
  simp only [← EReal.coe_sub, Ideal.exp_coe]
  rw [sum_coe, Ideal.div_coe hr.ne', ← EReal.coe_mul]
  congr 1
  exact shift l (fun k => l k - M) (-M) (fun k => by ring) r

/-- THE BOUND: at real points and positive real confidences the kernel's entry is within the tolerance, relative to the
    entry of the softmax by the clamped distance. -/
theorem ker_near_clamp (a p : Pt) (u : EReal) (b q : Fin 1024 → Pt) (v : Fin 1024 → EReal)
    (ha : ∃ f : Fin 3 → ℝ, a = fun k => (f k : EReal)) (hp : ∃ f : Fin 3 → ℝ, p = fun k => (f k : EReal))
    (hu : ∃ x : ℝ, 0 < x ∧ u = (x : EReal))
    (hb : ∀ k, ∃ f : Fin 3 → ℝ, b k = fun i => (f i : EReal)) (hq : ∀ k, ∃ f : Fin 3 → ℝ, q k = fun i => (f i : EReal))
    (hv : ∀ k, ∃ x : ℝ, 0 < x ∧ v k = (x : EReal)) (r : Fin 1024) :
    max (kerRow (fun k => kerBlend a p u (b k) (q k) (v k)) r - refRow (fun k => logitBy clampDist a p u (b k) (q k) (v k)) r)
        (-(kerRow (fun k => kerBlend a p u (b k) (q k) (v k)) r - refRow (fun k => logitBy clampDist a p u (b k) (q k) (v k)) r))
      ≤ Ideal.ofBits .f32 0x395C3372#32 * refRow (fun k => logitBy clampDist a p u (b k) (q k) (v k)) r := by
  rw [ker_eq_ref a p u b q v ha hp hu hb hq hv r, tol_eq]
  obtain ⟨a, rfl⟩ := ha
  obtain ⟨p, rfl⟩ := hp
  obtain ⟨u, hu, rfl⟩ := hu
  choose b hb using hb
  choose q hq using hq
  choose v hv hv' using hv
  simp only [hb, hq, hv']
  rw [show (fun k => refLogit (fun k => (a k : EReal)) (fun k => (p k : EReal)) (u : EReal) (fun i => (b k i : EReal)) (fun i => (q k i : EReal)) (v k : EReal)) = _
      from funext fun k => logitBy_coe refDist distR refDist_coe a p (b k) (q k) u (v k) hu (hv k),
    show (fun k => logitBy clampDist (fun k => (a k : EReal)) (fun k => (p k : EReal)) (u : EReal) (fun i => (b k i : EReal)) (fun i => (q k i : EReal)) (v k : EReal)) = _
      from funext fun k => logitBy_coe clampDist clampR clampDist_coe a p (b k) (q k) u (v k) hu (hv k),
    refRow_coe, refRow_coe]
  have key := soft_near _ _ _ (fun k => logit_near (distR a (q k)) (distR p (b k)) (clampR a (q k)) (clampR p (b k)) u (v k) hu (hv k)
    (dist_near _ _) (dist_near _ _)) r
  rw [← EReal.coe_sub, ← EReal.coe_neg, ← EReal.coe_mul, ← EReal.coe_strictMono.monotone.map_max, EReal.coe_le_coe_iff]
  refine key.trans (mul_le_mul_of_nonneg_right tol_le ?_)
  exact mul_nonneg (Real.exp_pos _).le (one_div_nonneg.2 (Finset.sum_nonneg fun k _ => (Real.exp_pos _).le))

end Cert.Spec

end
-- ==== Proof.Equation.lean ====
/- The kernel's array against the soft assignments, when the points and the two output layers are finite: equal to the one
   by the guarded distance, near the one by the clamped distance. -/
module

public import proofs.«01_k».proof.Proof.KerArray
public import proofs.«01_k».proof.Proof.RefArray
public import proofs.«01_k».proof.Proof.Near

@[expose] public section

set_option maxRecDepth 16384

noncomputable section

namespace Cert.Equation

open Cert.ReferenceIdeal Cert.ReferenceIdeal.Gen Cert.RefPoint
open Idealize.ShloMosaic Idealize.ShloMosaic.TcCoe

variable (x0 : FVec Ideal S1x4x1024x3 .f32) (x1 : FVec Ideal S3x64 .f32) (x2 : FVec Ideal S64 .f32) (x3 : FVec Ideal S64x3 .f32)
  (x4 : FVec Ideal S3 .f32) (x5 : FVec Ideal S3x64 .f32) (x6 : FVec Ideal S64 .f32) (x7 : FVec Ideal S64x1 .f32) (x8 : FVec Ideal S1 .f32)

/-- Points of real coordinates are real. -/
theorem vp_coe (h0 : ∀ i, ∃ r : ℝ, x0 i = (r : EReal)) (v : Fin 4) (k : Fin 1024) : ∃ f : Fin 3 → ℝ, vp x0 v k = fun i => (f i : EReal) := by
  choose f hf using fun i : Fin 3 => h0 (ix4 0 v k i)
  exact ⟨f, funext hf⟩

/-- Their moved points are real when the flow network's output layer is. -/
theorem mv_coe (h0 : ∀ i, ∃ r : ℝ, x0 i = (r : EReal)) (h3 : ∀ i, ∃ r : ℝ, x3 i = (r : EReal)) (h4 : ∀ i, ∃ r : ℝ, x4 i = (r : EReal))
    (v : Fin 4) (k : Fin 1024) : ∃ f : Fin 3 → ℝ, mv x1 x2 x3 x4 (vp x0 v k) = fun i => (f i : EReal) :=
  Spec.moved_coe _ _ _ _ _ (fun n i => h3 _) (fun i => h4 _) (fun i => h0 _)

/-- A confidence is a positive real when its network's output layer is real. -/
theorem cf_coe (h7 : ∀ i, ∃ r : ℝ, x7 i = (r : EReal)) (h8 : ∀ i, ∃ r : ℝ, x8 i = (r : EReal)) (a : Spec.Pt) :
    ∃ u : ℝ, 0 < u ∧ cf x5 x6 x7 x8 a = (u : EReal) :=
  Spec.conf_coe _ _ _ _ _ (fun n => h7 _) (h8 _)

variable (h0 : ∀ i, ∃ r : ℝ, x0 i = (r : EReal)) (h3 : ∀ i, ∃ r : ℝ, x3 i = (r : EReal)) (h4 : ∀ i, ∃ r : ℝ, x4 i = (r : EReal))
  (h7 : ∀ i, ∃ r : ℝ, x7 i = (r : EReal)) (h8 : ∀ i, ∃ r : ℝ, x8 i = (r : EReal))

include h0 h3 h4 h7 h8

/-- A row of the kernel is the row by the guarded distance. -/
theorem row_eq (i j : Fin 4) (r l : Fin 1024) :
    KerBlock.row x0 x1 x2 x3 x4 x5 x6 x7 x8 i j r l = RefArray.row x0 x1 x2 x3 x4 x5 x6 x7 x8 Spec.refDist i j r l :=
  Spec.ker_eq_ref _ _ _ _ _ _ (mv_coe x0 x1 x2 x3 x4 h0 h3 h4 i r) (vp_coe x0 h0 i r) (cf_coe x5 x6 x7 x8 h7 h8 _)
    (fun k => mv_coe x0 x1 x2 x3 x4 h0 h3 h4 j k) (fun k => vp_coe x0 h0 j k) (fun k => cf_coe x5 x6 x7 x8 h7 h8 _) l

/-- A row of the kernel is near the row by the clamped distance. -/
theorem row_near (i j : Fin 4) (r l : Fin 1024) :
    max (KerBlock.row x0 x1 x2 x3 x4 x5 x6 x7 x8 i j r l - RefArray.row x0 x1 x2 x3 x4 x5 x6 x7 x8 Spec.clampDist i j r l)
        (-(KerBlock.row x0 x1 x2 x3 x4 x5 x6 x7 x8 i j r l - RefArray.row x0 x1 x2 x3 x4 x5 x6 x7 x8 Spec.clampDist i j r l))
      ≤ Ideal.ofBits .f32 0x395C3372#32 * RefArray.row x0 x1 x2 x3 x4 x5 x6 x7 x8 Spec.clampDist i j r l :=
  Spec.ker_near_clamp _ _ _ _ _ _ (mv_coe x0 x1 x2 x3 x4 h0 h3 h4 i r) (vp_coe x0 h0 i r) (cf_coe x5 x6 x7 x8 h7 h8 _)
    (fun k => mv_coe x0 x1 x2 x3 x4 h0 h3 h4 j k) (fun k => vp_coe x0 h0 j k) (fun k => cf_coe x5 x6 x7 x8 h7 h8 _) l

/-- The soft assignment by the guarded distance is the kernel's array. -/
theorem arrays_eq : RefArray.assign x0 x1 x2 x3 x4 x5 x6 x7 x8 RefRow.distOf = KerArray.result x0 x1 x2 x3 x4 x5 x6 x7 x8 := by
  funext j
  rw [eq_ix4 j]
  refine (RefArray.assign_apply x0 x1 x2 x3 x4 x5 x6 x7 x8 _ _ RefArray.distOf_diff _ _ _ _).trans ?_
  exact (row_eq _ _ _ _ _ _ _ _ _ h0 h3 h4 h7 h8 _ _ _ _).symm

end Cert.Equation
-- ==== Proof.Post.lean ====
/- The printed comparison `near` of the arguments and a result array: it holds of the kernel's array. -/
module

public import proofs.«01_k».proof.Proof.Equation
public import proofs.«01_k».proof.Proof.Gen.Post_near

@[expose] public section

set_option maxRecDepth 16384

noncomputable section

namespace Cert.Post

open Cert.ReferenceIdeal Cert.ReferenceIdeal.Gen
open Idealize.ShloMosaic Idealize.ShloMosaic.TcCoe

variable (x0 : FVec Ideal S1x4x1024x3 .f32) (x1 : FVec Ideal S3x64 .f32) (x2 : FVec Ideal S64 .f32) (x3 : FVec Ideal S64x3 .f32)
  (x4 : FVec Ideal S3 .f32) (x5 : FVec Ideal S3x64 .f32) (x6 : FVec Ideal S64 .f32) (x7 : FVec Ideal S64x1 .f32) (x8 : FVec Ideal S1 .f32)

/-- Where two arrays differ by at most the tolerance, relative to the second. -/
abbrev within (a b : FVec Ideal S6x1x1024x1024 .f32) : IVec S6x1x1024x1024 1 :=
  cmpf .ole (Host.absf (subf a b)) (mulf (broadcastInDim S6x1x1024x1024 ![] Post_near.Gen.facts.bcast_S_S6x1x1024x1024 (constant S_ .f32 0x395C3372#32)) b)

/-- The printed comparison is that of the result and the soft assignment by the clamped distance. -/
theorem near_eq (y : FVec Ideal S6x1x1024x1024 .f32) :
    Post_near.fn (F := Ideal) x0 x1 x2 x3 x4 x5 x6 x7 x8 y = within y (RefArray.assign x0 x1 x2 x3 x4 x5 x6 x7 x8 RefRow.clampOf) := rfl

/-- The comparison at one element. -/
theorem within_apply (a b : FVec Ideal S6x1x1024x1024 .f32) (i : S6x1x1024x1024.Idx)
    (h : max (a i - b i) (-(a i - b i)) ≤ Ideal.ofBits .f32 0x395C3372#32 * b i) : within a b i = 1#1 := by
  show BitVec.ofBool (decide (max (a i - b i) (-(a i - b i)) ≤ Ideal.ofBits .f32 0x395C3372#32 * b i)) = 1#1
  rw [decide_eq_true h]
  rfl

/-- The comparison holds of the kernel's array. -/
theorem near (h0 : ∀ i, ∃ r : ℝ, x0 i = (r : EReal)) (h3 : ∀ i, ∃ r : ℝ, x3 i = (r : EReal)) (h4 : ∀ i, ∃ r : ℝ, x4 i = (r : EReal))
    (h7 : ∀ i, ∃ r : ℝ, x7 i = (r : EReal)) (h8 : ∀ i, ∃ r : ℝ, x8 i = (r : EReal)) :
    Post_near.fn (F := Ideal) x0 x1 x2 x3 x4 x5 x6 x7 x8 (KerArray.result x0 x1 x2 x3 x4 x5 x6 x7 x8) = fun _ => 1#1 := by
  have key : ∀ (p : Fin 6) (z : Fin 1) (r l : Fin 1024), within (KerArray.result x0 x1 x2 x3 x4 x5 x6 x7 x8)
      (RefArray.assign x0 x1 x2 x3 x4 x5 x6 x7 x8 RefRow.clampOf) (ix4 p z r l) = 1#1 := fun p z r l => by
    refine within_apply _ _ _ ?_
    rw [RefArray.assign_apply x0 x1 x2 x3 x4 x5 x6 x7 x8 _ _ RefArray.clampOf_diff]
    exact Equation.row_near _ _ _ _ _ _ _ _ _ h0 h3 h4 h7 h8 _ _ _ _
  rw [near_eq]
  funext j
  rw [eq_ix4 j]
  exact key _ _ _ _

end Cert.Post
-- ==== Proof.Values.lean ====
/- The value claims: over the extended reals the kernel and the reference end with equal results, and the kernel ends near
   the soft assignment by the clamped distance. -/
module

public import proofs.«01_k».proof.Defs
public import proofs.«01_k».proof.Proof.Table
public import proofs.«01_k».proof.Proof.Finite
public import proofs.«01_k».proof.Proof.Post

@[expose] public section

set_option maxRecDepth 16384

noncomputable section

namespace Cert.Values

open Idealize.ShloMosaic Idealize.SL.Sem Idealize.ShloMosaic.TcCoe

/-- What the kernel ends with on a device: the array of the printed arguments. -/
abbrev ends (m : (ℓ : Loc KernelIdeal.nD KernelIdeal.τ KernelIdeal.sig) → Buf (Elt Ideal) ℓ) (c : Dev KernelIdeal.nD) :
    Buf (Elt Ideal) ((c.tc : Thread KernelIdeal.nD KernelIdeal.τ).loc KernelIdeal.main_v0) :=
  KerArray.result (m (c.tc.loc KernelIdeal.main_arg0)) (m (c.tc.loc KernelIdeal.main_arg1)) (m (c.tc.loc KernelIdeal.main_arg2))
    (m (c.tc.loc KernelIdeal.main_arg3)) (m (c.tc.loc KernelIdeal.main_arg4)) (m (c.tc.loc KernelIdeal.main_arg5))
    (m (c.tc.loc KernelIdeal.main_arg6)) (m (c.tc.loc KernelIdeal.main_arg7)) (m (c.tc.loc KernelIdeal.main_arg8))

/-- The kernel runs, ends with that array and leaves its arguments. -/
theorem kernel_run (m : (ℓ : Loc KernelIdeal.nD KernelIdeal.τ KernelIdeal.sig) → Buf (Elt Ideal) ℓ) (g : Dev KernelIdeal.nD → PrngReg) :
    θ_run (KernelIdeal.defs (F := Ideal)) (onTc (τ := KernelIdeal.τ) (KernelIdeal.main (F := Ideal))) ⟨m, fun _ => 0, g⟩ (fun r => ∀ c : Dev KernelIdeal.nD,
      r.2.mem (c.tc.loc KernelIdeal.main_v0) = ends m c ∧
      r.2.mem (c.tc.loc KernelIdeal.main_arg0) = m (c.tc.loc KernelIdeal.main_arg0) ∧
      r.2.mem (c.tc.loc KernelIdeal.main_arg1) = m (c.tc.loc KernelIdeal.main_arg1) ∧
      r.2.mem (c.tc.loc KernelIdeal.main_arg2) = m (c.tc.loc KernelIdeal.main_arg2) ∧
      r.2.mem (c.tc.loc KernelIdeal.main_arg3) = m (c.tc.loc KernelIdeal.main_arg3) ∧
      r.2.mem (c.tc.loc KernelIdeal.main_arg4) = m (c.tc.loc KernelIdeal.main_arg4) ∧
      r.2.mem (c.tc.loc KernelIdeal.main_arg5) = m (c.tc.loc KernelIdeal.main_arg5) ∧
      r.2.mem (c.tc.loc KernelIdeal.main_arg6) = m (c.tc.loc KernelIdeal.main_arg6) ∧
      r.2.mem (c.tc.loc KernelIdeal.main_arg7) = m (c.tc.loc KernelIdeal.main_arg7) ∧
      r.2.mem (c.tc.loc KernelIdeal.main_arg8) = m (c.tc.loc KernelIdeal.main_arg8)) :=
  (θ_run _ _ _).mono (fun r h c => ⟨((h.1 c).1 9).trans (Cert.KerArray.final m _ _ c), h.2 c⟩)
    (θ_run_and (Cert.KernelIdeal.Gen.run_main m g (Cert.TableIdeal.ok m) (Cert.TableIdeal.hyps m))
      (Cert.KernelIdeal.Gen.unchanged m g (Cert.TableIdeal.ok m) (Cert.TableIdeal.hyps m)))

/-- From equal finite arguments the kernel and the reference both run and end with equal results. -/
theorem algebraic : Cert.algebraic_KernelIdeal_ReferenceIdeal_pre_finite := by
  intro m g m' g' hpre hagree
  refine ⟨ends m, kernel_run m g, ?_⟩
  refine (θ_run _ _ _).mono (fun r h c => ⟨(h c).1.trans ?_, (h c).2⟩) (Cert.ReferenceIdeal.Value.run m' g')
  obtain ⟨a0, a1, a2, a3, a4, a5, a6, a7, a8⟩ := hagree c
  obtain ⟨h0, h3, h4, h7, h8⟩ := Cert.Finite.reals _ _ _ _ _ _ _ _ _ (hpre c)
  refine (Cert.RefArray.result_eq _).trans ?_
  refine Eq.trans ?_ (Cert.Equation.arrays_eq _ _ _ _ _ _ _ _ _ h0 h3 h4 h7 h8)
  exact a0 ▸ a1 ▸ a2 ▸ a3 ▸ a4 ▸ a5 ▸ a6 ▸ a7 ▸ a8 ▸ rfl

/-- From finite arguments the kernel runs and ends within the tolerance of the soft assignment by the clamped distance. -/
theorem holds : Cert.holds_KernelIdeal_near_pre_finite := by
  intro m g hpre
  refine (θ_run _ _ _).mono (fun r h c => ?_) (kernel_run m g)
  obtain ⟨e, u0, u1, u2, u3, u4, u5, u6, u7, u8⟩ := h c
  obtain ⟨h0, h3, h4, h7, h8⟩ := Cert.Finite.reals _ _ _ _ _ _ _ _ _ (hpre c)
  refine ⟨u0, u1, u2, u3, u4, u5, u6, u7, u8, ?_⟩
  rw [e]
  exact Cert.Post.near _ _ _ _ _ _ _ _ _ h0 h3 h4 h7 h8

end Cert.Values
-- ==== Proof.lean ====
/- The proof of every claim of this certificate: the frames, the named constant, and the two value claims. -/
module

public import proofs.«01_k».proof.Defs
public import proofs.«01_k».proof.Proof.Frames
public import proofs.«01_k».proof.Proof.Values

@[expose] public section

noncomputable section

namespace Cert.Proof

/-- Everything claimed. -/
theorem claim : Cert.Claim :=
  ⟨Cert.Kernel.Gen.facts, Cert.KernelIdeal.Gen.facts, Cert.ReferenceIdeal.Gen.facts, Cert.Pre_finite.Gen.facts, Cert.Post_near.Gen.facts,
    Cert.Frames.kernel, Cert.Frames.kernelIdeal, Cert.Frames.kernelIdeal_finite, Cert.Frames.reference,
    Cert.Frames.reference_finite, Cert.Frames.preserves, Cert.Values.algebraic, Cert.Values.holds⟩

end Cert.Proof

end
